-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_scores.lean ====
abbrev S2x8x256x16384 : Shape := ⟨4, ![2, 8, 256, 16384]⟩
abbrev S2x8x16640x256 : Shape := ⟨4, ![2, 8, 16640, 256]⟩
abbrev S2x8x130x128x128 : Shape := ⟨5, ![2, 8, 130, 128, 128]⟩
abbrev S_ : Shape := ⟨0, ![]⟩

class Facts : Prop where
  bitsLt_bf16_f32 : FTy.bits .bf16 < FTy.bits .f32
  bcast_S_S2x8x256x16384 : S_.BroadcastsInDim S2x8x256x16384 (![] : Fin 0 → Fin S2x8x256x16384.rank)
  reducesTo_S2x8x256x16384_S_d0_1_2_3 : S2x8x256x16384.ReducesTo [0, 1, 2, 3] S_
  h_S_ : 0 < S_.numel
  bcast_S_S2x8x16640x256 : S_.BroadcastsInDim S2x8x16640x256 (![] : Fin 0 → Fin S2x8x16640x256.rank)
  reducesTo_S2x8x16640x256_S_d0_1_2_3 : S2x8x16640x256.ReducesTo [0, 1, 2, 3] S_

variable [Facts]

def fn {F : FTy → Type} [FloatOps F] (main_arg0 : FVec F S2x8x256x16384 .bf16) (main_arg1 : FVec F S2x8x16640x256 .bf16) (main_arg2 : FVec F S2x8x130x128x128 .bf16) : IVec S_ 1 :=
  let main_v0 : FVec F S2x8x256x16384 .f32 := (extf .f32 · bitsLt_bf16_f32) main_arg0
  let main_v1 : FVec F S2x8x256x16384 .f32 := Host.absf main_v0
  let main_cst : FVec F S_ .f32 := constant S_ .f32 0x7F800000#32
  let main_v2 : FVec F S2x8x256x16384 .f32 := broadcastInDim S2x8x256x16384 ![] bcast_S_S2x8x256x16384 main_cst
  let main_v3 : IVec S2x8x256x16384 1 := cmpf .olt main_v1 main_v2
  let main_c : IVec S_ 1 := constantI S_ 1 1#1
  let main_v4 : IVec S_ 1 := (fun x v => Host.reduce IntOp.andi x v reducesTo_S2x8x256x16384_S_d0_1_2_3 h_S_) main_v3 main_c
  let main_v5 : FVec F S2x8x16640x256 .f32 := (extf .f32 · bitsLt_bf16_f32) main_arg1
  let main_v6 : FVec F S2x8x16640x256 .f32 := Host.absf main_v5
  let main_cst_0 : FVec F S_ .f32 := constant S_ .f32 0x7F800000#32
  let main_v7 : FVec F S2x8x16640x256 .f32 := broadcastInDim S2x8x16640x256 ![] bcast_S_S2x8x16640x256 main_cst_0
  let main_v8 : IVec S2x8x16640x256 1 := cmpf .olt main_v6 main_v7
  let main_c_1 : IVec S_ 1 := constantI S_ 1 1#1
  let main_v9 : IVec S_ 1 := (fun x v => Host.reduce IntOp.andi x v reducesTo_S2x8x16640x256_S_d0_1_2_3 h_S_) main_v8 main_c_1
  let main_v10 : IVec S_ 1 := andi main_v4 main_v9
  main_v10
-- ==== Kernel.lean ====
abbrev S2x8x256x16384 : Shape := ⟨4, ![2, 8, 256, 16384]⟩
abbrev S2x8x16640x256 : Shape := ⟨4, ![2, 8, 16640, 256]⟩
abbrev S2x8x130x128x128 : Shape := ⟨5, ![2, 8, 130, 128, 128]⟩
abbrev S2x16384x1024 : Shape := ⟨3, ![2, 16384, 1024]⟩
abbrev S1x1x256x1024 : Shape := ⟨4, ![1, 1, 256, 1024]⟩
abbrev S1x1x16640x256 : Shape := ⟨4, ![1, 1, 16640, 256]⟩
abbrev S1x1x130x128x128 : Shape := ⟨5, ![1, 1, 130, 128, 128]⟩
abbrev S1x1024x128 : Shape := ⟨3, ![1, 1024, 128]⟩
abbrev S8x1024 : Shape := ⟨2, ![8, 1024]⟩
abbrev S128x1024 : Shape := ⟨2, ![128, 1024]⟩
abbrev S512x1024 : Shape := ⟨2, ![512, 1024]⟩
abbrev S256x1024 : Shape := ⟨2, ![256, 1024]⟩
abbrev S1x1x512x256 : Shape := ⟨4, ![1, 1, 512, 256]⟩
abbrev S512x256 : Shape := ⟨2, ![512, 256]⟩
abbrev S1024 : Shape := ⟨1, ![1024]⟩
abbrev S1x1024 : Shape := ⟨2, ![1, 1024]⟩
abbrev S1x1x1x128x128 : Shape := ⟨5, ![1, 1, 1, 128, 128]⟩
abbrev S128x128 : Shape := ⟨2, ![128, 128]⟩
abbrev S128x512 : Shape := ⟨2, ![128, 512]⟩
abbrev S1x1x256x256 : Shape := ⟨4, ![1, 1, 256, 256]⟩
abbrev S256x256 : Shape := ⟨2, ![256, 256]⟩
abbrev S128x256 : Shape := ⟨2, ![128, 256]⟩
abbrev S1024x128 : Shape := ⟨2, ![1024, 128]⟩

abbrev nBuf : Space → Nat
  | .hbm => 4
  | .vmem => 13
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16640x256, .bf16⟩
  | .hbm, ⟨2, _⟩ => ⟨S2x8x130x128x128, .bf16⟩
  | .hbm, ⟨3, _⟩ => ⟨S2x16384x1024, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x16640x256, .bf16⟩
  | .local _ .vmem, ⟨3, _⟩ => ⟨S1x1x16640x256, .bf16⟩
  | .local _ .vmem, ⟨4, _⟩ => ⟨S1x1x130x128x128, .bf16⟩
  | .local _ .vmem, ⟨5, _⟩ => ⟨S1x1x130x128x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S8x1024, .f32⟩
  | .local _ .vmem, ⟨9, _⟩ => ⟨S8x1024, .f32⟩
  | .local _ .vmem, ⟨10, _⟩ => ⟨S128x1024, .f32⟩
  | .local _ .vmem, ⟨11, _⟩ => ⟨S512x1024, .f32⟩
  | .local _ .vmem, ⟨12, _⟩ => ⟨S512x1024, .f32⟩
  | _, _ => ⟨S2x8x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c15_i32 : BitVec 32 := 15#32
  let v20 : BitVec 32 := Scalar.addi c0_i32 c15_i32
  let c1_i32 : BitVec 32 := 1#32
  ⟨c0_i32, v20, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v161 : BitVec 32 := Scalar.muli c2_i32 arg12
  let c1_i32_129 : BitVec 32 := 1#32
  let v162 : BitVec 32 := Scalar.addi v161 c1_i32_129
  let c512_i32 : BitVec 32 := 512#32
  let v163 : BitVec 32 := Scalar.muli v162 c512_i32
  v163
def k0_off1 (k0_t1 : Fin k0_t1_loop.trips) (c1_i32_129 : BitVec 32) : Fin 4 → Nat :=
  let c0_130 : Index := 0#32
  let c0_131 : Index := 0#32
  let c2_i32 : BitVec 32 := 2#32
  let c0_i32 : BitVec 32 := 0#32
  let c1_i32 : BitVec 32 := 1#32
  let arg12 : BitVec 32 := Scf.iv c0_i32 c1_i32 k0_t1
  let v161 : BitVec 32 := Scalar.muli c2_i32 arg12
  let v162 : BitVec 32 := Scalar.addi v161 c1_i32_129
  let c512_i32 : BitVec 32 := 512#32
  let v163 : BitVec 32 := Scalar.muli v162 c512_i32
  let v164 : BitVec 32 := v163
  let v165 : Index := Scalar.indexCast v164
  let c0_132 : Index := 0#32
  ![0, 0, v165.toNat, 0]
def k0_off2 (k0_t1 : Fin k0_t1_loop.trips) (c0_i32_147 : BitVec 32) : Fin 5 → Nat :=
  let c0_148 : Index := 0#32
  let c0_149 : Index := 0#32
  let c2_i32_138 : BitVec 32 := 2#32
  let c0_i32 : BitVec 32 := 0#32
  let c1_i32 : BitVec 32 := 1#32
  let arg12 : BitVec 32 := Scf.iv c0_i32 c1_i32 k0_t1
  let v173 : BitVec 32 := Scalar.muli c2_i32_138 arg12
  let c4_i32 : BitVec 32 := 4#32
  let v174 : BitVec 32 := Scalar.muli v173 c4_i32
  let v194 : BitVec 32 := Scalar.addi v174 c0_i32_147
  let v195 : Index := Scalar.indexCast v194
  let c0_150 : Index := 0#32
  let c0_151 : Index := 0#32
  ![0, 0, v195.toNat, 0, 0]
def k0_mult2 (k0_t1 : Fin k0_t1_loop.trips) : BitVec 32 :=
  let c2_i32_173 : BitVec 32 := 2#32
  let c0_i32 : BitVec 32 := 0#32
  let c1_i32 : BitVec 32 := 1#32
  let arg12 : BitVec 32 := Scf.iv c0_i32 c1_i32 k0_t1
  let v223 : BitVec 32 := Scalar.muli c2_i32_173 arg12
  let c2_i32_174 : BitVec 32 := 2#32
  let v224 : BitVec 32 := Scalar.addi v223 c2_i32_174
  let c512_i32_175 : BitVec 32 := 512#32
  let v225 : BitVec 32 := Scalar.muli v224 c512_i32_175
  v225
def k0_off3 (k0_t1 : Fin k0_t1_loop.trips) (c0_i32_195 : BitVec 32) : Fin 5 → Nat :=
  let c0_196 : Index := 0#32
  let c0_197 : Index := 0#32
  let c2_i32_184 : BitVec 32 := 2#32
  let c0_i32 : BitVec 32 := 0#32
  let c1_i32 : BitVec 32 := 1#32
  let arg12 : BitVec 32 := Scf.iv c0_i32 c1_i32 k0_t1
  let v235 : BitVec 32 := Scalar.muli c2_i32_184 arg12
  let c1_i32_185 : BitVec 32 := 1#32
  let v236 : BitVec 32 := Scalar.addi v235 c1_i32_185
  let c4_i32_186 : BitVec 32 := 4#32
  let v237 : BitVec 32 := Scalar.muli v236 c4_i32_186
  let v257 : BitVec 32 := Scalar.addi v237 c0_i32_195
  let v258 : Index := Scalar.indexCast v257
  let c0_198 : Index := 0#32
  let c0_199 : Index := 0#32
  ![0, 0, v258.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x130x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x256x16384 : Shape := ⟨4, ![2, 8, 256, 16384]⟩
abbrev S2x8x16640x256 : Shape := ⟨4, ![2, 8, 16640, 256]⟩
abbrev S2x8x130x128x128 : Shape := ⟨5, ![2, 8, 130, 128, 128]⟩
abbrev S2x16384x8x256 : Shape := ⟨4, ![2, 16384, 8, 256]⟩
abbrev S2x16640x8x256 : Shape := ⟨4, ![2, 16640, 8, 256]⟩
abbrev S2x130x128x8x128 : Shape := ⟨5, ![2, 130, 128, 8, 128]⟩
abbrev S2x16640x8x128 : Shape := ⟨4, ![2, 16640, 8, 128]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩
abbrev S2x16384x8x128 : Shape := ⟨4, ![2, 16384, 8, 128]⟩
abbrev S2x16384x1024 : Shape := ⟨3, ![2, 16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16640x256, .bf16⟩
  | .hbm, ⟨2, _⟩ => ⟨S2x8x130x128x128, .bf16⟩
  | .hbm, ⟨3, _⟩ => ⟨S2x16384x8x256, .bf16⟩
  | .hbm, ⟨4, _⟩ => ⟨S2x16384x8x256, .f32⟩
  | .hbm, ⟨5, _⟩ => ⟨S2x16640x8x256, .bf16⟩
  | .hbm, ⟨6, _⟩ => ⟨S2x16640x8x256, .f32⟩
  | .hbm, ⟨7, _⟩ => ⟨S2x130x128x8x128, .bf16⟩
  | .hbm, ⟨8, _⟩ => ⟨S2x16640x8x128, .bf16⟩
  | .hbm, ⟨9, _⟩ => ⟨S2x16640x8x128, .f32⟩
  | .hbm, ⟨10, _⟩ => ⟨S2x8x16384x16640, .f32⟩
  | .hbm, ⟨11, _⟩ => ⟨S_, .f32⟩
  | .hbm, ⟨12, _⟩ => ⟨S_, .f32⟩
  | .hbm, ⟨13, _⟩ => ⟨S2x8x16384x16640, .f32⟩
  | .hbm, ⟨14, _⟩ => ⟨S2x8x16384x16640, .f32⟩
  | .hbm, ⟨15, _⟩ => ⟨S_, .f32⟩
  | .hbm, ⟨16, _⟩ => ⟨S2x8x16384, .f32⟩
  | .hbm, ⟨17, _⟩ => ⟨S_, .f32⟩
  | .hbm, ⟨18, _⟩ => ⟨S2x8x16384, .f32⟩
  | .hbm, ⟨19, _⟩ => ⟨S2x8x16384, .f32⟩
  | .hbm, ⟨20, _⟩ => ⟨S2x8x16384x1, .f32⟩
  | .hbm, ⟨21, _⟩ => ⟨S2x8x16384x16640, .f32⟩
  | .hbm, ⟨22, _⟩ => ⟨S2x8x16384x16640, .f32⟩
  | .hbm, ⟨23, _⟩ => ⟨S2x8x16384x16640, .f32⟩
  | .hbm, ⟨24, _⟩ => ⟨S_, .f32⟩
  | .hbm, ⟨25, _⟩ => ⟨S2x8x16384, .f32⟩
  | .hbm, ⟨26, _⟩ => ⟨S2x8x16384x1, .f32⟩
  | .hbm, ⟨27, _⟩ => ⟨S2x8x16384x16640, .f32⟩
  | .hbm, ⟨28, _⟩ => ⟨S2x8x16384x16640, .f32⟩
  | .hbm, ⟨29, _⟩ => ⟨S2x8x128x16384, .f32⟩
  | .hbm, ⟨30, _⟩ => ⟨S2x16384x8x128, .f32⟩
  | .hbm, ⟨31, _⟩ => ⟨S2x16384x1024, .f32⟩
  | .hbm, ⟨32, _⟩ => ⟨S2x16384x1024, .bf16⟩
  | _, _ => ⟨S2x8x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x6x2048 : Shape := ⟨3, ![2, 6, 2048]⟩
abbrev S2048 : Shape := ⟨1, ![2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S1x512x2048 : Shape := ⟨3, ![1, 512, 2048]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2x6x2048, .f32⟩
  | .hbm, ⟨2, _⟩ => ⟨S2048, .f32⟩
  | .hbm, ⟨3, _⟩ => ⟨S2048, .f32⟩
  | .hbm, ⟨4, _⟩ => ⟨S2x2048x8192, .f32⟩
  | .hbm, ⟨5, _⟩ => ⟨S2x8192x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S1x2048, .f32⟩
  | .hbm, ⟨10, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x2048, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x512x2048, .f32⟩
  | .local _ .vmem, ⟨11, _⟩ => ⟨S1x512x2048, .f32⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 32, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S2x16384x2048 : Shape := ⟨3, ![2, 16384, 2048]⟩
abbrev S2x6x2048 : Shape := ⟨3, ![2, 6, 2048]⟩
abbrev S2048 : Shape := ⟨1, ![2048]⟩
abbrev S2x2048x8192 : Shape := ⟨3, ![2, 2048, 8192]⟩
abbrev S2x8192x2048 : Shape := ⟨3, ![2, 8192, 2048]⟩
abbrev S2x1x6x2048 : Shape := ⟨4, ![2, 1, 6, 2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x16384x8192 : Shape := ⟨3, ![2, 16384, 8192]⟩
abbrev S1x8192x2048 : Shape := ⟨3, ![1, 8192, 2048]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x2048, .f32⟩
  | .hbm, ⟨2, _⟩ => ⟨S2048, .f32⟩
  | .hbm, ⟨3, _⟩ => ⟨S2048, .f32⟩
  | .hbm, ⟨4, _⟩ => ⟨S2x2048x8192, .f32⟩
  | .hbm, ⟨5, _⟩ => ⟨S2x8192x2048, .f32⟩
  | .hbm, ⟨6, _⟩ => ⟨S2x1x6x2048, .f32⟩
  | .hbm, ⟨7, _⟩ => ⟨S2x1x1x2048, .f32⟩
  | .hbm, ⟨8, _⟩ => ⟨S2x1x2048, .f32⟩
  | .hbm, ⟨9, _⟩ => ⟨S2x1x1x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S1x1x2048, .f32⟩
  | .hbm, ⟨25, _⟩ => ⟨S2x16384x2048, .f32⟩
  | .hbm, ⟨26, _⟩ => ⟨S2x16384x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S1x2048x8192, .f32⟩
  | .hbm, ⟨35, _⟩ => ⟨S2048x8192, .f32⟩
  | .hbm, ⟨36, _⟩ => ⟨S2x16384x8192, .f32⟩
  | .hbm, ⟨37, _⟩ => ⟨S_, .f32⟩
  | .hbm, ⟨38, _⟩ => ⟨S2x16384x8192, .f32⟩
  | .hbm, ⟨39, _⟩ => ⟨S2x16384x8192, .f32⟩
  | .hbm, ⟨40, _⟩ => ⟨S2x16384x8192, .f32⟩
  | .hbm, ⟨41, _⟩ => ⟨S1x8192x2048, .f32⟩
  | .hbm, ⟨42, _⟩ => ⟨S8192x2048, .f32⟩
  | .hbm, ⟨43, _⟩ => ⟨S2x16384x2048, .f32⟩
  | .hbm, ⟨44, _⟩ => ⟨S2x1x1x2048, .f32⟩
  | .hbm, ⟨45, _⟩ => ⟨S2x1x2048, .f32⟩
  | .hbm, ⟨46, _⟩ => ⟨S2x16384x2048, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x2048, .f32⟩
  | .hbm, ⟨58, _⟩ => ⟨S2x16384x2048, .f32⟩
  | .hbm, ⟨59, _⟩ => ⟨S1x1x2048, .f32⟩
  | .hbm, ⟨60, _⟩ => ⟨S2x16384x2048, .f32⟩
  | .hbm, ⟨61, _⟩ => ⟨S2x16384x2048, .f32⟩
  | .hbm, ⟨62, _⟩ => ⟨S2x16384x2048, .f32⟩
  | .hbm, ⟨63, _⟩ => ⟨S2x16384x2048, .f32⟩
  | .hbm, ⟨64, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x6x2048 : Shape := ⟨3, ![2, 6, 2048]⟩
abbrev S2048 : Shape := ⟨1, ![2048]⟩
abbrev S2048x4096 : Shape := ⟨2, ![2048, 4096]⟩
abbrev S1x2048 : Shape := ⟨2, ![1, 2048]⟩
abbrev S2x16384x4096 : Shape := ⟨3, ![2, 16384, 4096]⟩
abbrev S1x512x2048 : Shape := ⟨3, ![1, 512, 2048]⟩
abbrev S1x6x2048 : Shape := ⟨3, ![1, 6, 2048]⟩
abbrev S1x512x4096 : Shape := ⟨3, ![1, 512, 4096]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S512x4096 : Shape := ⟨2, ![512, 4096]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x6x2048, .f32⟩
  | .hbm, ⟨2, _⟩ => ⟨S2048, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S2x16384x4096, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x4096, .bf16⟩
  | .local _ .vmem, ⟨6, _⟩ => ⟨S1x512x4096, .f32⟩
  | .local _ .vmem, ⟨7, _⟩ => ⟨S1x512x4096, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x16384x2048 : Shape := ⟨3, ![2, 16384, 2048]⟩
abbrev S2x6x2048 : Shape := ⟨3, ![2, 6, 2048]⟩
abbrev S2048 : Shape := ⟨1, ![2048]⟩
abbrev S2048x4096 : Shape := ⟨2, ![2048, 4096]⟩
abbrev S2x1x6x2048 : Shape := ⟨4, ![2, 1, 6, 2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x6x2048, .f32⟩
  | .hbm, ⟨2, _⟩ => ⟨S2048, .f32⟩
  | .hbm, ⟨3, _⟩ => ⟨S2048x4096, .f32⟩
  | .hbm, ⟨4, _⟩ => ⟨S2x1x6x2048, .f32⟩
  | .hbm, ⟨5, _⟩ => ⟨S2x1x1x2048, .f32⟩
  | .hbm, ⟨6, _⟩ => ⟨S2x1x2048, .f32⟩
  | .hbm, ⟨7, _⟩ => ⟨S2x1x1x2048, .f32⟩
  | .hbm, ⟨8, _⟩ => ⟨S2x1x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S2x16384x4096, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x4096 : Shape := ⟨3, ![2, 16384, 4096]⟩
abbrev S2x16384x2048 : Shape := ⟨3, ![2, 16384, 2048]⟩
abbrev S2x6x2048 : Shape := ⟨3, ![2, 6, 2048]⟩
abbrev S2048 : Shape := ⟨1, ![2048]⟩
abbrev S2048x2048 : Shape := ⟨2, ![2048, 2048]⟩
abbrev S1x2048 : Shape := ⟨2, ![1, 2048]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1024x2048 : Shape := ⟨2, ![1024, 2048]⟩
abbrev S512x1024 : Shape := ⟨2, ![512, 1024]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .f32⟩
  | .hbm, ⟨2, _⟩ => ⟨S2x16384x1024, .f32⟩
  | .hbm, ⟨3, _⟩ => ⟨S2x16384x4096, .f32⟩
  | .hbm, ⟨4, _⟩ => ⟨S2x16384x2048, .f32⟩
  | .hbm, ⟨5, _⟩ => ⟨S2x6x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2x16384x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x2048, .f32⟩
  | .local _ .vmem, ⟨9, _⟩ => ⟨S1x512x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S1x512x2048, .f32⟩
  | .local _ .vmem, ⟨16, _⟩ => ⟨S1x512x2048, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x16384x1024 : Shape := ⟨3, ![2, 16384, 1024]⟩
abbrev S2x16384x4096 : Shape := ⟨3, ![2, 16384, 4096]⟩
abbrev S2x16384x2048 : Shape := ⟨3, ![2, 16384, 2048]⟩
abbrev S2x6x2048 : Shape := ⟨3, ![2, 6, 2048]⟩
abbrev S2048 : Shape := ⟨1, ![2048]⟩
abbrev S2048x2048 : Shape := ⟨2, ![2048, 2048]⟩
abbrev S2x1x6x2048 : Shape := ⟨4, ![2, 1, 6, 2048]⟩
abbrev S_ : Shape := ⟨0, ![]⟩
abbrev S2x1x1x2048 : Shape := ⟨4, ![2, 1, 1, 2048]⟩
abbrev S2x1x2048 : Shape := ⟨3, ![2, 1, 2048]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .f32⟩
  | .hbm, ⟨2, _⟩ => ⟨S2x16384x1024, .f32⟩
  | .hbm, ⟨3, _⟩ => ⟨S2x16384x4096, .f32⟩
  | .hbm, ⟨4, _⟩ => ⟨S2x16384x2048, .f32⟩
  | .hbm, ⟨5, _⟩ => ⟨S2x6x2048, .f32⟩
  | .hbm, ⟨6, _⟩ => ⟨S2048, .f32⟩
  | .hbm, ⟨7, _⟩ => ⟨S2048x2048, .f32⟩
  | .hbm, ⟨8, _⟩ => ⟨S2x1x6x2048, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S_, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x16384x1024, .f32⟩
  | .hbm, ⟨27, _⟩ => ⟨S2x16384x1024, .f32⟩
  | .hbm, ⟨28, _⟩ => ⟨S_, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x2048, .f32⟩
  | .hbm, ⟨34, _⟩ => ⟨S2x16384x2048, .f32⟩
  | .hbm, ⟨35, _⟩ => ⟨S2x1x1x2048, .f32⟩
  | .hbm, ⟨36, _⟩ => ⟨S2x1x2048, .f32⟩
  | .hbm, ⟨37, _⟩ => ⟨S2x16384x2048, .f32⟩
  | .hbm, ⟨38, _⟩ => ⟨S_, .f32⟩
  | .hbm, ⟨39, _⟩ => ⟨S2x16384, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x1, .f32⟩
  | .hbm, ⟨48, _⟩ => ⟨S2x16384x2048, .f32⟩
  | .hbm, ⟨49, _⟩ => ⟨S2x16384x2048, .f32⟩
  | .hbm, ⟨50, _⟩ => ⟨S1x1x2048, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S2x16384x2048, .f32⟩
  | .hbm, ⟨55, _⟩ => ⟨S2x16384x2048, .f32⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x16384x2048 : Shape := ⟨3, ![2, 16384, 2048]⟩
abbrev S2x6x2048 : Shape := ⟨3, ![2, 6, 2048]⟩
abbrev S2048 : Shape := ⟨1, ![2048]⟩
abbrev S2048x2048 : Shape := ⟨2, ![2048, 2048]⟩
abbrev S1x2048 : Shape := ⟨2, ![1, 2048]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1024x2048 : Shape := ⟨2, ![1024, 2048]⟩
abbrev S512x1024 : Shape := ⟨2, ![512, 1024]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x2048, .f32⟩
  | .hbm, ⟨3, _⟩ => ⟨S2x6x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2x16384x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1024x2048, .bf16⟩
  | .local _ .vmem, ⟨10, _⟩ => ⟨S1024x2048, .bf16⟩
  | .local _ .vmem, ⟨11, _⟩ => ⟨S1x512x2048, .f32⟩
  | .local _ .vmem, ⟨12, _⟩ => ⟨S1x512x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x16384x1024 : Shape := ⟨3, ![2, 16384, 1024]⟩
abbrev S2x16384x2048 : Shape := ⟨3, ![2, 16384, 2048]⟩
abbrev S2x6x2048 : Shape := ⟨3, ![2, 6, 2048]⟩
abbrev S2048 : Shape := ⟨1, ![2048]⟩
abbrev S2048x2048 : Shape := ⟨2, ![2048, 2048]⟩
abbrev S2x1x6x2048 : Shape := ⟨4, ![2, 1, 6, 2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x2048, .f32⟩
  | .hbm, ⟨3, _⟩ => ⟨S2x6x2048, .f32⟩
  | .hbm, ⟨4, _⟩ => ⟨S2048, .f32⟩
  | .hbm, ⟨5, _⟩ => ⟨S2048x2048, .f32⟩
  | .hbm, ⟨6, _⟩ => ⟨S2x1x6x2048, .f32⟩
  | .hbm, ⟨7, _⟩ => ⟨S2x16384x1024, .f32⟩
  | .hbm, ⟨8, _⟩ => ⟨S2x16384x2048, .f32⟩
  | .hbm, ⟨9, _⟩ => ⟨S2x16384x2048, .f32⟩
  | .hbm, ⟨10, _⟩ => ⟨S2x1x1x2048, .f32⟩
  | .hbm, ⟨11, _⟩ => ⟨S2x1x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel6.lean ====
abbrev S2x16384x2048 : Shape := ⟨3, ![2, 16384, 2048]⟩
abbrev S2x256x2048 : Shape := ⟨3, ![2, 256, 2048]⟩
abbrev S2x6x2048 : Shape := ⟨3, ![2, 6, 2048]⟩
abbrev S2048 : Shape := ⟨1, ![2048]⟩
abbrev S2048x2112 : Shape := ⟨2, ![2048, 2112]⟩
abbrev S2048x64 : Shape := ⟨2, ![2048, 64]⟩
abbrev S2048x32 : Shape := ⟨2, ![2048, 32]⟩
abbrev S2048x2048 : Shape := ⟨2, ![2048, 2048]⟩
abbrev S_ : Shape := ⟨0, ![]⟩
abbrev S2048x128 : Shape := ⟨2, ![2048, 128]⟩
abbrev S2048x2304 : Shape := ⟨2, ![2048, 2304]⟩
abbrev S1x2048 : Shape := ⟨2, ![1, 2048]⟩
abbrev S2x16640x2304 : Shape := ⟨3, ![2, 16640, 2304]⟩
abbrev S1x512x2048 : Shape := ⟨3, ![1, 512, 2048]⟩
abbrev S1x6x2048 : Shape := ⟨3, ![1, 6, 2048]⟩
abbrev S1x512x2304 : Shape := ⟨3, ![1, 512, 2304]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S512x2304 : Shape := ⟨2, ![512, 2304]⟩
abbrev S1x256x2048 : Shape := ⟨3, ![1, 256, 2048]⟩
abbrev S1x256x2304 : Shape := ⟨3, ![1, 256, 2304]⟩
abbrev S256x2048 : Shape := ⟨2, ![256, 2048]⟩
abbrev S256 : Shape := ⟨1, ![256]⟩
abbrev S256x1 : Shape := ⟨2, ![256, 1]⟩
abbrev S256x2304 : Shape := ⟨2, ![256, 2304]⟩

abbrev nBuf : Space → Nat
  | .hbm => 18
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x6x2048, .f32⟩
  | .hbm, ⟨3, _⟩ => ⟨S2x6x2048, .f32⟩
  | .hbm, ⟨4, _⟩ => ⟨S2048, .f32⟩
  | .hbm, ⟨5, _⟩ => ⟨S2048x2112, .f32⟩
  | .hbm, ⟨6, _⟩ => ⟨S2048x64, .f32⟩
  | .hbm, ⟨7, _⟩ => ⟨S2048x32, .f32⟩
  | .hbm, ⟨8, _⟩ => ⟨S2048x32, .f32⟩
  | .hbm, ⟨9, _⟩ => ⟨S2048x2048, .f32⟩
  | .hbm, ⟨10, _⟩ => ⟨S_, .f32⟩
  | .hbm, ⟨11, _⟩ => ⟨S2048x128, .f32⟩
  | .hbm, ⟨12, _⟩ => ⟨S2048x2304, .f32⟩
  | .hbm, ⟨13, _⟩ => ⟨S2048x2304, .bf16⟩
  | .hbm, ⟨14, _⟩ => ⟨S1x2048, .f32⟩
  | .hbm, ⟨15, _⟩ => ⟨S2x16640x2304, .f32⟩
  | .hbm, ⟨16, _⟩ => ⟨S1x2048, .f32⟩
  | .hbm, ⟨17, _⟩ => ⟨S2x16640x2304, .f32⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x2304, .bf16⟩
  | .local _ .vmem, ⟨6, _⟩ => ⟨S1x512x2304, .f32⟩
  | .local _ .vmem, ⟨7, _⟩ => ⟨S1x512x2304, .f32⟩
  | .local _ .vmem, ⟨8, _⟩ => ⟨S1x256x2048, .f32⟩
  | .local _ .vmem, ⟨9, _⟩ => ⟨S1x256x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S2048x2304, .bf16⟩
  | .local _ .vmem, ⟨14, _⟩ => ⟨S1x256x2304, .f32⟩
  | .local _ .vmem, ⟨15, _⟩ => ⟨S1x256x2304, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![arg0.toNat, v0.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x6x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x2304 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x2304 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference6Ideal.lean ====
abbrev S2x16384x2048 : Shape := ⟨3, ![2, 16384, 2048]⟩
abbrev S2x256x2048 : Shape := ⟨3, ![2, 256, 2048]⟩
abbrev S2x6x2048 : Shape := ⟨3, ![2, 6, 2048]⟩
abbrev S2048 : Shape := ⟨1, ![2048]⟩
abbrev S2048x2112 : Shape := ⟨2, ![2048, 2112]⟩
abbrev S2x1x6x2048 : Shape := ⟨4, ![2, 1, 6, 2048]⟩
abbrev S2x1x1x2048 : Shape := ⟨4, ![2, 1, 1, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x2112 : Shape := ⟨3, ![2, 16384, 2112]⟩
abbrev S2x256 : Shape := ⟨2, ![2, 256]⟩
abbrev S2x256x1 : Shape := ⟨3, ![2, 256, 1]⟩
abbrev S2x256x2112 : Shape := ⟨3, ![2, 256, 2112]⟩
abbrev S2x16640x2112 : Shape := ⟨3, ![2, 16640, 2112]⟩
abbrev S2x16640x32 : Shape := ⟨3, ![2, 16640, 32]⟩
abbrev S2x16640x128 : Shape := ⟨3, ![2, 16640, 128]⟩
abbrev S2x16640x2304 : Shape := ⟨3, ![2, 16640, 2304]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x6x2048, .f32⟩
  | .hbm, ⟨3, _⟩ => ⟨S2x6x2048, .f32⟩
  | .hbm, ⟨4, _⟩ => ⟨S2048, .f32⟩
  | .hbm, ⟨5, _⟩ => ⟨S2048x2112, .f32⟩
  | .hbm, ⟨6, _⟩ => ⟨S2x1x6x2048, .f32⟩
  | .hbm, ⟨7, _⟩ => ⟨S2x1x6x2048, .f32⟩
  | .hbm, ⟨8, _⟩ => ⟨S2x1x1x2048, .f32⟩
  | .hbm, ⟨9, _⟩ => ⟨S2x1x2048, .f32⟩
  | .hbm, ⟨10, _⟩ => ⟨S2x1x1x2048, .f32⟩
  | .hbm, ⟨11, _⟩ => ⟨S2x1x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x2112, .f32⟩
  | .hbm, ⟨36, _⟩ => ⟨S2x1x1x2048, .f32⟩
  | .hbm, ⟨37, _⟩ => ⟨S2x1x2048, .f32⟩
  | .hbm, ⟨38, _⟩ => ⟨S2x1x1x2048, .f32⟩
  | .hbm, ⟨39, _⟩ => ⟨S2x1x2048, .f32⟩
  | .hbm, ⟨40, _⟩ => ⟨S2x256x2048, .f32⟩
  | .hbm, ⟨41, _⟩ => ⟨S_, .f32⟩
  | .hbm, ⟨42, _⟩ => ⟨S2x256, .f32⟩
  | .hbm, ⟨43, _⟩ => ⟨S2x256x1, .f32⟩
  | .hbm, ⟨44, _⟩ => ⟨S_, .f32⟩
  | .hbm, ⟨45, _⟩ => ⟨S2x256x1, .f32⟩
  | .hbm, ⟨46, _⟩ => ⟨S2x256x1, .f32⟩
  | .hbm, ⟨47, _⟩ => ⟨S_, .f32⟩
  | .hbm, ⟨48, _⟩ => ⟨S2x256x1, .f32⟩
  | .hbm, ⟨49, _⟩ => ⟨S2x256x1, .f32⟩
  | .hbm, ⟨50, _⟩ => ⟨S2x256x1, .f32⟩
  | .hbm, ⟨51, _⟩ => ⟨S2x256x2048, .f32⟩
  | .hbm, ⟨52, _⟩ => ⟨S2x256x2048, .f32⟩
  | .hbm, ⟨53, _⟩ => ⟨S1x1x2048, .f32⟩
  | .hbm, ⟨54, _⟩ => ⟨S2x256x2048, .f32⟩
  | .hbm, ⟨55, _⟩ => ⟨S2x256x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x256x2048, .f32⟩
  | .hbm, ⟨60, _⟩ => ⟨S2x256x2048, .f32⟩
  | .hbm, ⟨61, _⟩ => ⟨S2x256x2048, .f32⟩
  | .hbm, ⟨62, _⟩ => ⟨S2x256x2048, .f32⟩
  | .hbm, ⟨63, _⟩ => ⟨S2x256x2112, .f32⟩
  | .hbm, ⟨64, _⟩ => ⟨S2x16640x2112, .f32⟩
  | .hbm, ⟨65, _⟩ => ⟨S2x16640x32, .f32⟩
  | .hbm, ⟨66, _⟩ => ⟨S2x16640x32, .f32⟩
  | .hbm, ⟨67, _⟩ => ⟨S_, .f32⟩
  | .hbm, ⟨68, _⟩ => ⟨S2x16640x128, .f32⟩
  | .hbm, ⟨69, _⟩ => ⟨S2x16640x2304, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel7.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 45
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S1x2048x12288, .f32⟩
  | .hbm, ⟨18, _⟩ => ⟨S2048x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S8x2048, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S1x2048x12288, .f32⟩
  | .hbm, ⟨35, _⟩ => ⟨S2048x12288, .f32⟩
  | .hbm, ⟨36, _⟩ => ⟨S8x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S8x12288, .f32⟩
  | .hbm, ⟨41, _⟩ => ⟨S8x12288, .f32⟩
  | .hbm, ⟨42, _⟩ => ⟨S1x8x12288, .f32⟩
  | .hbm, ⟨43, _⟩ => ⟨S1x8x12288, .f32⟩
  | .hbm, ⟨44, _⟩ => ⟨S2x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel8.lean ====
abbrev S2x16640x2112 : Shape := ⟨3, ![2, 16640, 2112]⟩
abbrev S512 : Shape := ⟨1, ![512]⟩
abbrev S512x1536 : Shape := ⟨2, ![512, 1536]⟩
abbrev S16640x32 : Shape := ⟨2, ![16640, 32]⟩
abbrev S2x16640x32 : Shape := ⟨3, ![2, 16640, 32]⟩
abbrev S_ : Shape := ⟨0, ![]⟩
abbrev S2x16640x128 : Shape := ⟨3, ![2, 16640, 128]⟩
abbrev S2x16640x2304 : Shape := ⟨3, ![2, 16640, 2304]⟩
abbrev S16640x128 : Shape := ⟨2, ![16640, 128]⟩
abbrev S512x8x192 : Shape := ⟨3, ![512, 8, 192]⟩
abbrev S512x8x32 : Shape := ⟨3, ![512, 8, 32]⟩
abbrev S512x8x128 : Shape := ⟨3, ![512, 8, 128]⟩
abbrev S512x8x256 : Shape := ⟨3, ![512, 8, 256]⟩
abbrev S8x512x256 : Shape := ⟨3, ![8, 512, 256]⟩
abbrev S1x512 : Shape := ⟨2, ![1, 512]⟩
abbrev S2x8x256x16384 : Shape := ⟨4, ![2, 8, 256, 16384]⟩
abbrev S1x1024x512 : Shape := ⟨3, ![1, 1024, 512]⟩
abbrev S1024x128 : Shape := ⟨2, ![1024, 128]⟩
abbrev S1x8x256x1024 : Shape := ⟨4, ![1, 8, 256, 1024]⟩
abbrev S1024x512 : Shape := ⟨2, ![1024, 512]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1024x256 : Shape := ⟨2, ![1024, 256]⟩
abbrev S256x1024 : Shape := ⟨2, ![256, 1024]⟩
abbrev S1x1x256x1024 : Shape := ⟨4, ![1, 1, 256, 1024]⟩

abbrev nBuf : Space → Nat
  | .hbm => 21
  | .vmem => 8
  | .smem => 0
  | _ => 0

abbrev bufTy : (tb : Table) → Fin (tcTables nBuf tb) → BufTy
  | .hbm, ⟨0, _⟩ => ⟨S2x16640x2112, .f32⟩
  | .hbm, ⟨1, _⟩ => ⟨S512, .f32⟩
  | .hbm, ⟨2, _⟩ => ⟨S512x1536, .f32⟩
  | .hbm, ⟨3, _⟩ => ⟨S16640x32, .f32⟩
  | .hbm, ⟨4, _⟩ => ⟨S16640x32, .f32⟩
  | .hbm, ⟨5, _⟩ => ⟨S2x16640x32, .f32⟩
  | .hbm, ⟨6, _⟩ => ⟨S2x16640x32, .f32⟩
  | .hbm, ⟨7, _⟩ => ⟨S_, .f32⟩
  | .hbm, ⟨8, _⟩ => ⟨S2x16640x128, .f32⟩
  | .hbm, ⟨9, _⟩ => ⟨S2x16640x2304, .f32⟩
  | .hbm, ⟨10, _⟩ => ⟨S16640x32, .f32⟩
  | .hbm, ⟨11, _⟩ => ⟨S16640x128, .f32⟩
  | .hbm, ⟨12, _⟩ => ⟨S512x8x192, .f32⟩
  | .hbm, ⟨13, _⟩ => ⟨S512x8x32, .f32⟩
  | .hbm, ⟨14, _⟩ => ⟨S512x8x32, .f32⟩
  | .hbm, ⟨15, _⟩ => ⟨S512x8x128, .f32⟩
  | .hbm, ⟨16, _⟩ => ⟨S512x8x256, .f32⟩
  | .hbm, ⟨17, _⟩ => ⟨S8x512x256, .f32⟩
  | .hbm, ⟨18, _⟩ => ⟨S8x512x256, .bf16⟩
  | .hbm, ⟨19, _⟩ => ⟨S1x512, .f32⟩
  | .hbm, ⟨20, _⟩ => ⟨S2x8x256x16384, .bf16⟩
  | .local _ .vmem, ⟨0, _⟩ => ⟨S1x1024x512, .f32⟩
  | .local _ .vmem, ⟨1, _⟩ => ⟨S1x1024x512, .f32⟩
  | .local _ .vmem, ⟨2, _⟩ => ⟨S1x512, .f32⟩
  | .local _ .vmem, ⟨3, _⟩ => ⟨S8x512x256, .bf16⟩
  | .local _ .vmem, ⟨4, _⟩ => ⟨S1024x128, .f32⟩
  | .local _ .vmem, ⟨5, _⟩ => ⟨S1024x128, .f32⟩
  | .local _ .vmem, ⟨6, _⟩ => ⟨S1x8x256x1024, .bf16⟩
  | .local _ .vmem, ⟨7, _⟩ => ⟨S1x8x256x1024, .bf16⟩
  | _, _ => ⟨S2x16640x2112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x16640x2112 : Shape := ⟨3, ![2, 16640, 2112]⟩
abbrev S512 : Shape := ⟨1, ![512]⟩
abbrev S512x1536 : Shape := ⟨2, ![512, 1536]⟩
abbrev S16640x32 : Shape := ⟨2, ![16640, 32]⟩
abbrev S2x16384x512 : Shape := ⟨3, ![2, 16384, 512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S2x16384x1536 : Shape := ⟨3, ![2, 16384, 1536]⟩
abbrev S2x16384x8x192 : Shape := ⟨4, ![2, 16384, 8, 192]⟩
abbrev S16384x32 : Shape := ⟨2, ![16384, 32]⟩
abbrev S16384x1x32 : Shape := ⟨3, ![16384, 1, 32]⟩
abbrev S2x16384x8x128 : Shape := ⟨4, ![2, 16384, 8, 128]⟩
abbrev S2x16384x8x64 : Shape := ⟨4, ![2, 16384, 8, 64]⟩
abbrev S2x16384x8x32 : Shape := ⟨4, ![2, 16384, 8, 32]⟩
abbrev S1x16384x1x32 : Shape := ⟨4, ![1, 16384, 1, 32]⟩
abbrev S2x16384x8x256 : Shape := ⟨4, ![2, 16384, 8, 256]⟩
abbrev S2x8x256x16384 : Shape := ⟨4, ![2, 8, 256, 16384]⟩

abbrev nBuf : Space → Nat
  | .hbm => 55
  | .vmem => 0
  | .smem => 0
  | _ => 0

abbrev bufTy : (tb : Table) → Fin (tcTables nBuf tb) → BufTy
  | .hbm, ⟨0, _⟩ => ⟨S2x16640x2112, .f32⟩
  | .hbm, ⟨1, _⟩ => ⟨S512, .f32⟩
  | .hbm, ⟨2, _⟩ => ⟨S512x1536, .f32⟩
  | .hbm, ⟨3, _⟩ => ⟨S16640x32, .f32⟩
  | .hbm, ⟨4, _⟩ => ⟨S16640x32, .f32⟩
  | .hbm, ⟨5, _⟩ => ⟨S2x16384x512, .f32⟩
  | .hbm, ⟨6, _⟩ => ⟨S2x16384x512, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x512, .f32⟩
  | .hbm, ⟨18, _⟩ => ⟨S2x16384x512, .f32⟩
  | .hbm, ⟨19, _⟩ => ⟨S1x1x512, .f32⟩
  | .hbm, ⟨20, _⟩ => ⟨S2x16384x512, .f32⟩
  | .hbm, ⟨21, _⟩ => ⟨S2x16384x512, .f32⟩
  | .hbm, ⟨22, _⟩ => ⟨S2x16384x1536, .f32⟩
  | .hbm, ⟨23, _⟩ => ⟨S2x16384x8x192, .f32⟩
  | .hbm, ⟨24, _⟩ => ⟨S16384x32, .f32⟩
  | .hbm, ⟨25, _⟩ => ⟨S16384x1x32, .f32⟩
  | .hbm, ⟨26, _⟩ => ⟨S16384x32, .f32⟩
  | .hbm, ⟨27, _⟩ => ⟨S16384x1x32, .f32⟩
  | .hbm, ⟨28, _⟩ => ⟨S2x16384x8x128, .f32⟩
  | .hbm, ⟨29, _⟩ => ⟨S2x16384x8x64, .f32⟩
  | .hbm, ⟨30, _⟩ => ⟨S2x16384x8x32, .f32⟩
  | .hbm, ⟨31, _⟩ => ⟨S2x16384x8x32, .f32⟩
  | .hbm, ⟨32, _⟩ => ⟨S1x16384x1x32, .f32⟩
  | .hbm, ⟨33, _⟩ => ⟨S2x16384x8x32, .f32⟩
  | .hbm, ⟨34, _⟩ => ⟨S2x16384x8x32, .f32⟩
  | .hbm, ⟨35, _⟩ => ⟨S1x16384x1x32, .f32⟩
  | .hbm, ⟨36, _⟩ => ⟨S2x16384x8x32, .f32⟩
  | .hbm, ⟨37, _⟩ => ⟨S2x16384x8x32, .f32⟩
  | .hbm, ⟨38, _⟩ => ⟨S2x16384x8x32, .f32⟩
  | .hbm, ⟨39, _⟩ => ⟨S1x16384x1x32, .f32⟩
  | .hbm, ⟨40, _⟩ => ⟨S2x16384x8x32, .f32⟩
  | .hbm, ⟨41, _⟩ => ⟨S2x16384x8x32, .f32⟩
  | .hbm, ⟨42, _⟩ => ⟨S1x16384x1x32, .f32⟩
  | .hbm, ⟨43, _⟩ => ⟨S2x16384x8x32, .f32⟩
  | .hbm, ⟨44, _⟩ => ⟨S2x16384x8x32, .f32⟩
  | .hbm, ⟨45, _⟩ => ⟨S2x16384x8x32, .f32⟩
  | .hbm, ⟨46, _⟩ => ⟨S2x16384x8x64, .f32⟩
  | .hbm, ⟨47, _⟩ => ⟨S_, .f32⟩
  | .hbm, ⟨48, _⟩ => ⟨S2x16384x8x64, .f32⟩
  | .hbm, ⟨49, _⟩ => ⟨S2x16384x8x256, .f32⟩
  | .hbm, ⟨50, _⟩ => ⟨S_, .f32⟩
  | .hbm, ⟨51, _⟩ => ⟨S2x16384x8x256, .f32⟩
  | .hbm, ⟨52, _⟩ => ⟨S2x16384x8x256, .f32⟩
  | .hbm, ⟨53, _⟩ => ⟨S2x8x256x16384, .f32⟩
  | .hbm, ⟨54, _⟩ => ⟨S2x8x256x16384, .bf16⟩
  | _, _ => ⟨S2x16640x2112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel9.lean ====
abbrev S2x16640x2112 : Shape := ⟨3, ![2, 16640, 2112]⟩
abbrev S512 : Shape := ⟨1, ![512]⟩
abbrev S512x2048 : Shape := ⟨2, ![512, 2048]⟩
abbrev S16640x32 : Shape := ⟨2, ![16640, 32]⟩
abbrev S2x16640x32 : Shape := ⟨3, ![2, 16640, 32]⟩
abbrev S_ : Shape := ⟨0, ![]⟩
abbrev S2x16640x128 : Shape := ⟨3, ![2, 16640, 128]⟩
abbrev S2x16640x2304 : Shape := ⟨3, ![2, 16640, 2304]⟩
abbrev S16640x128 : Shape := ⟨2, ![16640, 128]⟩
abbrev S1x512 : Shape := ⟨2, ![1, 512]⟩
abbrev S2x8x16640x256 : Shape := ⟨4, ![2, 8, 16640, 256]⟩
abbrev S2x8x130x128x128 : Shape := ⟨5, ![2, 8, 130, 128, 128]⟩
abbrev S1x1280x512 : Shape := ⟨3, ![1, 1280, 512]⟩
abbrev S1x1280x128 : Shape := ⟨3, ![1, 1280, 128]⟩
abbrev S1280x128 : Shape := ⟨2, ![1280, 128]⟩
abbrev S1x8x1280x256 : Shape := ⟨4, ![1, 8, 1280, 256]⟩
abbrev S1x8x10x128x128 : Shape := ⟨5, ![1, 8, 10, 128, 128]⟩
abbrev S1280x512 : Shape := ⟨2, ![1280, 512]⟩
abbrev S1280 : Shape := ⟨1, ![1280]⟩
abbrev S1280x1 : Shape := ⟨2, ![1280, 1]⟩
abbrev S512x256 : Shape := ⟨2, ![512, 256]⟩
abbrev S1280x256 : Shape := ⟨2, ![1280, 256]⟩
abbrev S1x1x1280x256 : Shape := ⟨4, ![1, 1, 1280, 256]⟩
abbrev S128x1280 : Shape := ⟨2, ![128, 1280]⟩
abbrev S128x128 : Shape := ⟨2, ![128, 128]⟩
abbrev S1x1x1x128x128 : Shape := ⟨5, ![1, 1, 1, 128, 128]⟩

abbrev nBuf : Space → Nat
  | .hbm => 16
  | .vmem => 12
  | .smem => 0
  | _ => 0

abbrev bufTy : (tb : Table) → Fin (tcTables nBuf tb) → BufTy
  | .hbm, ⟨0, _⟩ => ⟨S2x16640x2112, .f32⟩
  | .hbm, ⟨1, _⟩ => ⟨S512, .f32⟩
  | .hbm, ⟨2, _⟩ => ⟨S512x2048, .f32⟩
  | .hbm, ⟨3, _⟩ => ⟨S16640x32, .f32⟩
  | .hbm, ⟨4, _⟩ => ⟨S16640x32, .f32⟩
  | .hbm, ⟨5, _⟩ => ⟨S2x16640x32, .f32⟩
  | .hbm, ⟨6, _⟩ => ⟨S2x16640x32, .f32⟩
  | .hbm, ⟨7, _⟩ => ⟨S_, .f32⟩
  | .hbm, ⟨8, _⟩ => ⟨S2x16640x128, .f32⟩
  | .hbm, ⟨9, _⟩ => ⟨S2x16640x2304, .f32⟩
  | .hbm, ⟨10, _⟩ => ⟨S16640x32, .f32⟩
  | .hbm, ⟨11, _⟩ => ⟨S16640x128, .f32⟩
  | .hbm, ⟨12, _⟩ => ⟨S1x512, .f32⟩
  | .hbm, ⟨13, _⟩ => ⟨S512x2048, .bf16⟩
  | .hbm, ⟨14, _⟩ => ⟨S2x8x16640x256, .bf16⟩
  | .hbm, ⟨15, _⟩ => ⟨S2x8x130x128x128, .bf16⟩
  | .local _ .vmem, ⟨0, _⟩ => ⟨S1x1280x512, .f32⟩
  | .local _ .vmem, ⟨1, _⟩ => ⟨S1x1280x512, .f32⟩
  | .local _ .vmem, ⟨2, _⟩ => ⟨S1x1280x128, .f32⟩
  | .local _ .vmem, ⟨3, _⟩ => ⟨S1x1280x128, .f32⟩
  | .local _ .vmem, ⟨4, _⟩ => ⟨S1x512, .f32⟩
  | .local _ .vmem, ⟨5, _⟩ => ⟨S512x2048, .bf16⟩
  | .local _ .vmem, ⟨6, _⟩ => ⟨S1280x128, .f32⟩
  | .local _ .vmem, ⟨7, _⟩ => ⟨S1280x128, .f32⟩
  | .local _ .vmem, ⟨8, _⟩ => ⟨S1x8x1280x256, .bf16⟩
  | .local _ .vmem, ⟨9, _⟩ => ⟨S1x8x1280x256, .bf16⟩
  | .local _ .vmem, ⟨10, _⟩ => ⟨S1x8x10x128x128, .bf16⟩
  | .local _ .vmem, ⟨11, _⟩ => ⟨S1x8x10x128x128, .bf16⟩
  | _, _ => ⟨S2x16640x2112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 13], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1280x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x10x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x16640x2112 : Shape := ⟨3, ![2, 16640, 2112]⟩
abbrev S512 : Shape := ⟨1, ![512]⟩
abbrev S512x2048 : Shape := ⟨2, ![512, 2048]⟩
abbrev S16640x32 : Shape := ⟨2, ![16640, 32]⟩
abbrev S2x16640x512 : Shape := ⟨3, ![2, 16640, 512]⟩
abbrev S_ : Shape := ⟨0, ![]⟩
abbrev S2x16640 : Shape := ⟨2, ![2, 16640]⟩
abbrev S2x16640x1 : Shape := ⟨3, ![2, 16640, 1]⟩
abbrev S1x1x512 : Shape := ⟨3, ![1, 1, 512]⟩
abbrev S2x16640x2048 : Shape := ⟨3, ![2, 16640, 2048]⟩
abbrev S2x16640x8x256 : Shape := ⟨4, ![2, 16640, 8, 256]⟩
abbrev S2x16640x8x128 : Shape := ⟨4, ![2, 16640, 8, 128]⟩
abbrev S2x16640x64 : Shape := ⟨3, ![2, 16640, 64]⟩
abbrev S2x16640x32 : Shape := ⟨3, ![2, 16640, 32]⟩
abbrev S1x16640x32 : Shape := ⟨3, ![1, 16640, 32]⟩
abbrev S2x16640x1x64 : Shape := ⟨4, ![2, 16640, 1, 64]⟩
abbrev S2x16640x8x64 : Shape := ⟨4, ![2, 16640, 8, 64]⟩
abbrev S2x130x128x8x128 : Shape := ⟨5, ![2, 130, 128, 8, 128]⟩
abbrev S2x8x130x128x128 : Shape := ⟨5, ![2, 8, 130, 128, 128]⟩
abbrev S2x8x16640x256 : Shape := ⟨4, ![2, 8, 16640, 256]⟩

abbrev nBuf : Space → Nat
  | .hbm => 54
  | .vmem => 0
  | .smem => 0
  | _ => 0

abbrev bufTy : (tb : Table) → Fin (tcTables nBuf tb) → BufTy
  | .hbm, ⟨0, _⟩ => ⟨S2x16640x2112, .f32⟩
  | .hbm, ⟨1, _⟩ => ⟨S512, .f32⟩
  | .hbm, ⟨2, _⟩ => ⟨S512x2048, .f32⟩
  | .hbm, ⟨3, _⟩ => ⟨S16640x32, .f32⟩
  | .hbm, ⟨4, _⟩ => ⟨S16640x32, .f32⟩
  | .hbm, ⟨5, _⟩ => ⟨S2x16640x512, .f32⟩
  | .hbm, ⟨6, _⟩ => ⟨S2x16640x512, .f32⟩
  | .hbm, ⟨7, _⟩ => ⟨S_, .f32⟩
  | .hbm, ⟨8, _⟩ => ⟨S2x16640, .f32⟩
  | .hbm, ⟨9, _⟩ => ⟨S2x16640x1, .f32⟩
  | .hbm, ⟨10, _⟩ => ⟨S_, .f32⟩
  | .hbm, ⟨11, _⟩ => ⟨S2x16640x1, .f32⟩
  | .hbm, ⟨12, _⟩ => ⟨S2x16640x1, .f32⟩
  | .hbm, ⟨13, _⟩ => ⟨S_, .f32⟩
  | .hbm, ⟨14, _⟩ => ⟨S2x16640x1, .f32⟩
  | .hbm, ⟨15, _⟩ => ⟨S2x16640x1, .f32⟩
  | .hbm, ⟨16, _⟩ => ⟨S2x16640x1, .f32⟩
  | .hbm, ⟨17, _⟩ => ⟨S2x16640x512, .f32⟩
  | .hbm, ⟨18, _⟩ => ⟨S2x16640x512, .f32⟩
  | .hbm, ⟨19, _⟩ => ⟨S1x1x512, .f32⟩
  | .hbm, ⟨20, _⟩ => ⟨S2x16640x512, .f32⟩
  | .hbm, ⟨21, _⟩ => ⟨S2x16640x512, .f32⟩
  | .hbm, ⟨22, _⟩ => ⟨S2x16640x2048, .f32⟩
  | .hbm, ⟨23, _⟩ => ⟨S2x16640x8x256, .f32⟩
  | .hbm, ⟨24, _⟩ => ⟨S2x16640x8x128, .f32⟩
  | .hbm, ⟨25, _⟩ => ⟨S2x16640x8x128, .f32⟩
  | .hbm, ⟨26, _⟩ => ⟨S2x16640x64, .f32⟩
  | .hbm, ⟨27, _⟩ => ⟨S2x16640x32, .f32⟩
  | .hbm, ⟨28, _⟩ => ⟨S2x16640x32, .f32⟩
  | .hbm, ⟨29, _⟩ => ⟨S1x16640x32, .f32⟩
  | .hbm, ⟨30, _⟩ => ⟨S2x16640x32, .f32⟩
  | .hbm, ⟨31, _⟩ => ⟨S2x16640x32, .f32⟩
  | .hbm, ⟨32, _⟩ => ⟨S1x16640x32, .f32⟩
  | .hbm, ⟨33, _⟩ => ⟨S2x16640x32, .f32⟩
  | .hbm, ⟨34, _⟩ => ⟨S2x16640x32, .f32⟩
  | .hbm, ⟨35, _⟩ => ⟨S2x16640x32, .f32⟩
  | .hbm, ⟨36, _⟩ => ⟨S1x16640x32, .f32⟩
  | .hbm, ⟨37, _⟩ => ⟨S2x16640x32, .f32⟩
  | .hbm, ⟨38, _⟩ => ⟨S2x16640x32, .f32⟩
  | .hbm, ⟨39, _⟩ => ⟨S1x16640x32, .f32⟩
  | .hbm, ⟨40, _⟩ => ⟨S2x16640x32, .f32⟩
  | .hbm, ⟨41, _⟩ => ⟨S2x16640x32, .f32⟩
  | .hbm, ⟨42, _⟩ => ⟨S2x16640x32, .f32⟩
  | .hbm, ⟨43, _⟩ => ⟨S2x16640x64, .f32⟩
  | .hbm, ⟨44, _⟩ => ⟨S2x16640x1x64, .f32⟩
  | .hbm, ⟨45, _⟩ => ⟨S2x16640x8x64, .f32⟩
  | .hbm, ⟨46, _⟩ => ⟨S_, .f32⟩
  | .hbm, ⟨47, _⟩ => ⟨S2x16640x8x64, .f32⟩
  | .hbm, ⟨48, _⟩ => ⟨S2x16640x8x256, .f32⟩
  | .hbm, ⟨49, _⟩ => ⟨S2x130x128x8x128, .f32⟩
  | .hbm, ⟨50, _⟩ => ⟨S2x8x130x128x128, .f32⟩
  | .hbm, ⟨51, _⟩ => ⟨S2x8x16640x256, .f32⟩
  | .hbm, ⟨52, _⟩ => ⟨S2x8x16640x256, .bf16⟩
  | .hbm, ⟨53, _⟩ => ⟨S2x8x130x128x128, .bf16⟩
  | _, _ => ⟨S2x16640x2112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Proof.AttnIdealRun.lean ====
/-
  The attention kernel's body, run: the running row maxima, row sums, weighted values and the scores kept for the
  next half trip as a state, what one trip of the loop makes of it, and the output block as a function of the three
  input blocks.
-/
module

public import proofs.«01_k».proof.Proof.Gen.KernelIdeal.Loops
public import proofs.«01_k».proof.Proof.Gen.KernelIdeal.Frame
public import Idealize.ShloMosaic.Lib.VecWindow
public import Idealize.ShloMosaic.Lib.Pipeline.ValueKit
public import Idealize.ShloMosaic.Lib.Tactic

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel keeps between two halves of a trip: row maxima, row sums, weighted values, and the scores of the
    block of keys it takes in next. -/
structure St (F : FTy → Type) [FloatOps F] where
  m : Vec F S8x1024 .f32
  l : Vec F S8x1024 .f32
  a : Vec F S128x1024 .f32
  s : Vec F S512x1024 .f32

/-- One trip: the scores of two more blocks are computed, and the two blocks before the last of them taken in. -/
def St.next (x0 : Vec F S1x1x256x1024 .bf16) (x1 : Vec F S1x1x16640x256 .bf16) (x2 : Vec F S1x1x130x128x128 .bf16)
    (k : Fin k0_t1_loop.trips) (S : St F) : St F :=
  have sb : Vec F S512x1024 .f32 := k0_pay4 (k0_pay16 x0) (View.ld x1 (Rect.unit (s := S1x1x16640x256) (k0_off1 k 1#32) S1x1x512x256.size (k0_off1_inb k 0)))
  have m1 : Vec F S8x1024 .f32 := k0_pay10 (k0_pay5 S.s S.m)
  have l1 : Vec F S8x1024 .f32 := k0_pay8 S.s S.m S.l
  have a1 : Vec F S128x1024 .f32 := k0_pay9 (k0_pay6 S.s S.m) (k0_pay7 S.s S.m)
    (View.ld x2 (Rect.unit (s := S1x1x130x128x128) (k0_off2 k 0#32) S1x1x1x128x128.size (k0_off2_inb k 0))) (View.ld x2 (Rect.unit (s := S1x1x130x128x128) (k0_off2 k 1#32) S1x1x1x128x128.size (k0_off2_inb k 1)))
    (View.ld x2 (Rect.unit (s := S1x1x130x128x128) (k0_off2 k 2#32) S1x1x1x128x128.size (k0_off2_inb k 2))) (View.ld x2 (Rect.unit (s := S1x1x130x128x128) (k0_off2 k 3#32) S1x1x1x128x128.size (k0_off2_inb k 3))) S.a
  ⟨k0_pay22 (k0_pay12 sb m1), k0_pay15 sb m1 l1, k0_pay21 (k0_pay13 sb m1) (k0_pay14 sb m1)
    (View.ld x2 (Rect.unit (s := S1x1x130x128x128) (k0_off3 k 0#32) S1x1x1x128x128.size (k0_off3_inb k 0))) (View.ld x2 (Rect.unit (s := S1x1x130x128x128) (k0_off3 k 1#32) S1x1x1x128x128.size (k0_off3_inb k 1)))
    (View.ld x2 (Rect.unit (s := S1x1x130x128x128) (k0_off3 k 2#32) S1x1x1x128x128.size (k0_off3_inb k 2))) (View.ld x2 (Rect.unit (s := S1x1x130x128x128) (k0_off3 k 3#32) S1x1x1x128x128.size (k0_off3_inb k 3))) a1,
    k0_pay11 (k0_pay16 x0) (View.ld x1 (Rect.unit (s := S1x1x16640x256) (k0_off1 k 2#32) S1x1x512x256.size (k0_off1_inb k 1)))⟩

/-- The state before trip `k`, from the one the loop is entered with. -/
def St.at (x0 : Vec F S1x1x256x1024 .bf16) (x1 : Vec F S1x1x16640x256 .bf16) (x2 : Vec F S1x1x130x128x128 .bf16)
    (S : St F) : ℕ → St F
  | 0 => S
  | k + 1 => if h : k < k0_t1_loop.trips then St.next x0 x1 x2 ⟨k, h⟩ (St.at x0 x1 x2 S k) else St.at x0 x1 x2 S k

theorem St.at_succ (x0 : Vec F S1x1x256x1024 .bf16) (x1 : Vec F S1x1x16640x256 .bf16) (x2 : Vec F S1x1x130x128x128 .bf16)
    (S : St F) (k : Fin k0_t1_loop.trips) : St.at x0 x1 x2 S (k.val + 1) = St.next x0 x1 x2 k (St.at x0 x1 x2 S k.val) :=
  dif_pos k.isLt

/-- The state the loop is entered with. -/
def St.init (x0 : Vec F S1x1x256x1024 .bf16) (x1 : Vec F S1x1x16640x256 .bf16) : St F :=
  ⟨k0_pay17, k0_pay18, k0_pay19, k0_pay20 x0
    (View.ld x1 (Rect.unit (s := S1x1x16640x256) ![0, 0, 0, 0] S1x1x512x256.size inb_S1x1x16640x256_S1x1x512x256_0_0_0_0))⟩

/-- What the body leaves in the output block from the state after the loop: the last two whole blocks and the
    remainder taken in, then the quotient. -/
def St.out (x0 : Vec F S1x1x256x1024 .bf16) (x1 : Vec F S1x1x16640x256 .bf16) (x2 : Vec F S1x1x130x128x128 .bf16)
    (S : St F) : Vec F S1x1024x128 .bf16 :=
  have sb : Vec F S512x1024 .f32 := k0_pay24 (k0_pay16 x0) (k0_pay23 (View.ld x1 (Rect.unit (s := S1x1x16640x256) ![0, 0, 15872, 0] S1x1x512x256.size inb_S1x1x16640x256_S1x1x512x256_0_0_15872_0)))
    (constant S512x1024 .f32 0x00000000#32)
  have m1 : Vec F S8x1024 .f32 := k0_pay33 (k0_pay25 S.s S.m)
  have l1 : Vec F S8x1024 .f32 := k0_pay28 S.s S.m S.l
  have a1 : Vec F S128x1024 .f32 := k0_pay32 (k0_pay26 S.s S.m) (k0_pay27 S.s S.m)
    (k0_pay29 (View.ld x2 (Rect.unit (s := S1x1x130x128x128) ![0, 0, 120, 0, 0] S1x1x1x128x128.size inb_S1x1x130x128x128_S1x1x1x128x128_0_0_120_0_0))) (k0_pay30 (View.ld x2 (Rect.unit (s := S1x1x130x128x128) ![0, 0, 121, 0, 0] S1x1x1x128x128.size inb_S1x1x130x128x128_S1x1x1x128x128_0_0_121_0_0)))
    (k0_pay31 (View.ld x2 (Rect.unit (s := S1x1x130x128x128) ![0, 0, 122, 0, 0] S1x1x1x128x128.size inb_S1x1x130x128x128_S1x1x1x128x128_0_0_122_0_0))) (View.ld x2 (Rect.unit (s := S1x1x130x128x128) ![0, 0, 123, 0, 0] S1x1x1x128x128.size inb_S1x1x130x128x128_S1x1x1x128x128_0_0_123_0_0)) S.a
  have sr : Vec F S256x1024 .f32 := k0_pay34 (k0_pay16 x0) (View.ld x1 (Rect.unit (s := S1x1x16640x256) ![0, 0, 16384, 0] S1x1x256x256.size inb_S1x1x16640x256_S1x1x256x256_0_0_16384_0))
  have m2 : Vec F S8x1024 .f32 := k0_pay40 (k0_pay35 sb m1)
  have l2 : Vec F S8x1024 .f32 := k0_pay38 (k0_pay36 sb m1) (k0_pay37 sb m1) l1
  have a2 : Vec F S128x1024 .f32 := k0_pay39 (k0_pay36 sb m1) (k0_pay37 sb m1)
    (View.ld x2 (Rect.unit (s := S1x1x130x128x128) ![0, 0, 124, 0, 0] S1x1x1x128x128.size inb_S1x1x130x128x128_S1x1x1x128x128_0_0_124_0_0)) (View.ld x2 (Rect.unit (s := S1x1x130x128x128) ![0, 0, 125, 0, 0] S1x1x1x128x128.size inb_S1x1x130x128x128_S1x1x1x128x128_0_0_125_0_0))
    (View.ld x2 (Rect.unit (s := S1x1x130x128x128) ![0, 0, 126, 0, 0] S1x1x1x128x128.size inb_S1x1x130x128x128_S1x1x1x128x128_0_0_126_0_0)) (View.ld x2 (Rect.unit (s := S1x1x130x128x128) ![0, 0, 127, 0, 0] S1x1x1x128x128.size inb_S1x1x130x128x128_S1x1x1x128x128_0_0_127_0_0)) a1
  k0_pay3 (k0_pay1 (k0_pay45 sr m2 (View.ld x2 (Rect.unit (s := S1x1x130x128x128) ![0, 0, 128, 0, 0] S1x1x1x128x128.size inb_S1x1x130x128x128_S1x1x1x128x128_0_0_128_0_0)) (View.ld x2 (Rect.unit (s := S1x1x130x128x128) ![0, 0, 129, 0, 0] S1x1x1x128x128.size inb_S1x1x130x128x128_S1x1x1x128x128_0_0_129_0_0)) a2))
    (k0_pay44 sr m2 l2)

/-- The output block from the input blocks. -/
def out (x0 : Vec F S1x1x256x1024 .bf16) (x1 : Vec F S1x1x16640x256 .bf16) (x2 : Vec F S1x1x130x128x128 .bf16) : Vec F S1x1024x128 .bf16 :=
  St.out x0 x1 x2 (St.at x0 x1 x2 (St.init x0 x1) k0_t1_loop.trips)

/-- The state the loop is entered with, its keys read through the buffer they lie in. -/
def St.entry (arg4 : Memref sig .tc .vmem S1x1x16640x256 .bf16) (harg4 : arg4.IsWhole) (x0 : Vec F S1x1x256x1024 .bf16)
    (x1 : Vec F S1x1x16640x256 .bf16) : St F :=
  ⟨k0_pay17, k0_pay18, k0_pay19, k0_pay20 x0 (View.readAt (Elt F) arg4.view
    (Rect.unit (s := S1x1x16640x256) ![0, 0, 0, 0] S1x1x512x256.size inb_S1x1x16640x256_S1x1x512x256_0_0_0_0).toLoadRect (harg4.unread x1))⟩

theorem St.entry_eq (arg4 : Memref sig .tc .vmem S1x1x16640x256 .bf16) (harg4 : arg4.IsWhole) (x0 : Vec F S1x1x256x1024 .bf16)
    (x1 : Vec F S1x1x16640x256 .bf16) : St.entry arg4 harg4 x0 x1 = St.init x0 x1 := by
  simp only [St.entry, St.init, View.readAt_eq_ld, Memref.IsWhole.read_unread]

/-- A store of a whole buffer hides what was in it. -/
theorem writes_whole {s : Shape} {e : EltTy} {sp : Space} {a : Memref sig .tc sp s e} (h : a.IsWhole)
    {off off' : Fin s.rank → ℕ} (inb : ∀ i, off i + s.size i ≤ s.size i) (inb' : ∀ i, off' i + s.size i ≤ s.size i)
    (f g : BufTy.Contents (Elt F) a.view.ty) (w w' : s.Idx → Elt F e) (L L' : List (View.Piece (Elt F) s e)) (hw : w = w') :
    a.view.writes (Elt F) f (⟨Rect.unit off s.size inb, w⟩ :: L) = a.view.writes (Elt F) g (⟨Rect.unit off' s.size inb', w'⟩ :: L') := by
  subst hw
  exact (h.eq_unread (View.read_writes_full a.view f inb w L)).trans (h.eq_unread (View.read_writes_full a.view g inb' w L')).symm

set_option warn.classDefReducibility false in
/-- THE LOOP by the state: before trip `k` the scratch buffers hold the state's four arrays, the second score buffer
    anything. -/
@[sl_loop] def loopInv (c : Dev nD) (bd : Option Variants.none.V) (E : Set ℕ) (i : grid0.Coords) (arg3 : Memref sig .tc .vmem S1x1x256x1024 .bf16) (harg3 : arg3.IsWhole) (arg4 : Memref sig .tc .vmem S1x1x16640x256 .bf16) (harg4 : arg4.IsWhole) (arg5 : Memref sig .tc .vmem S1x1x130x128x128 .bf16) (harg5 : arg5.IsWhole) (arg6 : Memref sig .tc .vmem S1x1024x128 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S128x1024 .f32) (harg9 : arg9.IsWhole) (arg10 : Memref sig .tc .vmem S512x1024 .f32) (harg10 : arg10.IsWhole) (arg11 : Memref sig .tc .vmem S512x1024 .f32) (harg11 : arg11.IsWhole)
    (v0 : Vec F S1x1x256x1024 .bf16) (x1 : Vec F S1x1x16640x256 .bf16) (x2 : Vec F S1x1x130x128x128 .bf16)
    (J7 : BufTy.Contents (Elt F) arg7.view.ty) (J8 : BufTy.Contents (Elt F) arg8.view.ty)
    (J9 : BufTy.Contents (Elt F) arg9.view.ty) (J10 : BufTy.Contents (Elt F) arg10.view.ty) :
    LoopInvTy_k0_t1 (F := F) Unit ℕ (UR sig nD τ) ℕ Variants.none c bd E i arg3 harg3 arg4 harg4 arg5 harg5 arg6 harg6 arg7 harg7 arg8 harg8 arg9 harg9 arg10 harg10 arg11 harg11 v0 where
  inv k _ := iprop((arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f) ∗ ⌜f = arg7.view.writes (Elt F) J7 [⟨Rect.unit (s := S8x1024) ![0, 0] S8x1024.size inb_S8x1024_S8x1024_0_0, (St.at v0 x1 x2 (St.entry arg4 harg4 v0 x1) k).m⟩]⌝)
    ∗ (∃ f, (arg8.view.loc (c : Thread nD τ) ↦[arg8.view.set]{fullShare} f) ∗ ⌜f = arg8.view.writes (Elt F) J8 [⟨Rect.unit (s := S8x1024) ![0, 0] S8x1024.size inb_S8x1024_S8x1024_0_0, (St.at v0 x1 x2 (St.entry arg4 harg4 v0 x1) k).l⟩]⌝)
    ∗ (∃ f, (arg9.view.loc (c : Thread nD τ) ↦[arg9.view.set]{fullShare} f) ∗ ⌜f = arg9.view.writes (Elt F) J9 [⟨Rect.unit (s := S128x1024) ![0, 0] S128x1024.size inb_S128x1024_S128x1024_0_0, (St.at v0 x1 x2 (St.entry arg4 harg4 v0 x1) k).a⟩]⌝)
    ∗ (∃ f, (arg10.view.loc (c : Thread nD τ) ↦[arg10.view.set]{fullShare} f) ∗ ⌜f = arg10.view.writes (Elt F) J10 [⟨Rect.unit (s := S512x1024) ![0, 0] S512x1024.size inb_S512x1024_S512x1024_0_0, (St.at v0 x1 x2 (St.entry arg4 harg4 v0 x1) k).s⟩]⌝)
    ∗ (∃ f, arg11.view.loc (c : Thread nD τ) ↦[arg11.view.set]{fullShare} f))
  step k acc := by
    have hk : k.val < 15 := Nat.lt_of_lt_of_le k.isLt k0_t1_abs.2.1
    iintro ⟨H4, H5, ⟨%f7, H7, %h7⟩, ⟨%f8, H8, %h8⟩, ⟨%f9, H9, %h9⟩, ⟨%f10, H10, %h10⟩, ⟨%f11, H11⟩⟩
    subst h7 h8 h9 h10
    rw [St.at_succ]
    generalize St.at v0 x1 x2 (St.entry arg4 harg4 v0 x1) k.val = T
    unfold k0_t1_body
    sl_exec
    sl_step
    isplitl [H4]; · iexact H4
    isplitl [H5]; · iexact H5
    isplitl [H7]
    · iexists _; isplitl [H7]; · iexact H7
      ipureintro
      refine writes_whole harg7 _ _ _ _ _ _ _ _ ?_
      sl_unfold_words
      simp (disch := decide) only [View.ld_unit_lit', View.readCov_unit_lit', View.readCov_cons_unit_lit', View.readAt_eq_ld,
        Memref.IsWhole.read_unread, View.read_writes_junk_eq_canon, View.canon_cons_unit_lit', St.next]
      try rfl
    isplitl [H8]
    · iexists _; isplitl [H8]; · iexact H8
      ipureintro
      refine writes_whole harg8 _ _ _ _ _ _ _ _ ?_
      sl_unfold_words
      simp (disch := decide) only [View.ld_unit_lit', View.readCov_unit_lit', View.readCov_cons_unit_lit', View.readAt_eq_ld,
        Memref.IsWhole.read_unread, View.read_writes_junk_eq_canon, View.canon_cons_unit_lit', St.next]
      try rfl
    isplitl [H9]
    · iexists _; isplitl [H9]; · iexact H9
      ipureintro
      refine writes_whole harg9 _ _ _ _ _ _ _ _ ?_
      sl_unfold_words
      simp (disch := decide) only [View.ld_unit_lit', View.readCov_unit_lit', View.readCov_cons_unit_lit', View.readAt_eq_ld,
        Memref.IsWhole.read_unread, View.read_writes_junk_eq_canon, View.canon_cons_unit_lit', St.next]
      try rfl
    isplitl [H10]
    · iexists _; isplitl [H10]; · iexact H10
      ipureintro
      refine writes_whole harg10 _ _ _ _ _ _ _ _ ?_
      sl_unfold_words
      simp (disch := decide) only [View.ld_unit_lit', View.readCov_unit_lit', View.readCov_cons_unit_lit', View.readAt_eq_ld,
        Memref.IsWhole.read_unread, View.read_writes_junk_eq_canon, View.canon_cons_unit_lit', St.next]
      try rfl
    iexists _; iexact H11

set_option maxHeartbeats 1000000 in
/-- THE BODY, run: from the input blocks it leaves `out` of them in the output's buffer, and the inputs as they were. -/
theorem run (c : Dev nD) (i : grid0.Coords) (arg3 : Memref sig .tc .vmem S1x1x256x1024 .bf16) (harg3 : arg3.IsWhole) (arg4 : Memref sig .tc .vmem S1x1x16640x256 .bf16) (harg4 : arg4.IsWhole) (arg5 : Memref sig .tc .vmem S1x1x130x128x128 .bf16) (harg5 : arg5.IsWhole) (arg6 : Memref sig .tc .vmem S1x1024x128 .bf16) (harg6 : arg6.IsWhole) (arg7 : Memref sig .tc .vmem S8x1024 .f32) (harg7 : arg7.IsWhole) (arg8 : Memref sig .tc .vmem S8x1024 .f32) (harg8 : arg8.IsWhole) (arg9 : Memref sig .tc .vmem S128x1024 .f32) (harg9 : arg9.IsWhole) (arg10 : Memref sig .tc .vmem S512x1024 .f32) (harg10 : arg10.IsWhole) (arg11 : Memref sig .tc .vmem S512x1024 .f32) (harg11 : arg11.IsWhole)
    (x0 : Vec F S1x1x256x1024 .bf16) (x1 : Vec F S1x1x16640x256 .bf16) (x2 : Vec F S1x1x130x128x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_flash_attention i arg3 harg3 arg4 harg4 arg5 harg5 arg6 harg6 arg7 harg7 arg8 harg8 arg9 harg9 arg10 harg10 arg11 harg11) K := by
  simp only [cc0_flash_attention_eq_skeleton]; unfold cc0_flash_attention_skel
  simp only [k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    rw [View.read_writes_full]
    sl_unfold_words
    simp (disch := decide) only [View.ld_unit_lit', View.readCov_unit_lit', View.readCov_cons_unit_lit', View.readAt_eq_ld,
      Memref.IsWhole.read_unread, View.read_writes_junk_eq_canon, View.canon_cons_unit_lit', View.readCov_cons_toLoadRect, out, St.out, St.entry_eq]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Flash

end
-- ==== Proof.AttnIdealFrame.lean ====
/-
  The attention call's launch: what its arrays hold after the run, and that it terminates and leaves its arguments as
  they were.
-/
module

public import proofs.«01_k».proof.Proof.AttnIdealRun
public import Idealize.ShloMosaic.Lib.Claim

@[expose] public section

set_option maxRecDepth 16384

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after point `t`. -/
def outAt (c : Dev nD) (t : Fin cfg0.N) : Vec F S1x1024x128 .bf16 := out (iblk m c 0 t) (iblk m c 1 t) (iblk m c 2 t)

/-- The launch's proof data: each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem dats_A (c : Dev nD) (w : Fin cfg0.W) : (dats m 0 c).A w = V m c (Pipeline.arrRef spec0 w) := by dsimp only [dats]
theorem dats_after_0 (c : Dev nD) (t : Fin cfg0.N) : (dats m 0 c).after 0 t = iblk m c 0 t := by dsimp only [dats]
theorem dats_after_1 (c : Dev nD) (t : Fin cfg0.N) : (dats m 0 c).after 1 t = iblk m c 1 t := by dsimp only [dats]
theorem dats_after_2 (c : Dev nD) (t : Fin cfg0.N) : (dats m 0 c).after 2 t = iblk m c 2 t := by dsimp only [dats]
theorem dats_after_3 (c : Dev nD) (t : Fin cfg0.N) : (dats m 0 c).after 3 t = outAt m c t := by dsimp only [dats]

/-- The launch's invariant: the five scratch buffers at some contents, and the generator register. -/
theorem scratch_eq (c : Dev nD) :
    (Pipeline.ΦA spec0 c : sProp 𝕄) = iprop(iprop((∃ d, owns (c : Thread nD τ) (Memref.whole cc0_scratch0 : Memref sig .tc .vmem S8x1024 .f32) fullShare d) ∗ (∃ d, owns (c : Thread nD τ) (Memref.whole cc0_scratch1 : Memref sig .tc .vmem S8x1024 .f32) fullShare d) ∗ (∃ d, owns (c : Thread nD τ) (Memref.whole cc0_scratch2 : Memref sig .tc .vmem S128x1024 .f32) fullShare d) ∗ (∃ d, owns (c : Thread nD τ) (Memref.whole cc0_scratch3 : Memref sig .tc .vmem S512x1024 .f32) fullShare d) ∗ (∃ d, owns (c : Thread nD τ) (Memref.whole cc0_scratch4 : Memref sig .tc .vmem S512x1024 .f32) fullShare d)) ∗ (∃ r, prngReg c r)) := by
  unfold Pipeline.ΦA; rw [scopedRest0_eq]; simp only [owns_whole]

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- The body at a point: its buffers hold the point's blocks, so `run` applies; the scratch buffers come from the
    invariant and go back to it. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (dats_A m c 0) (dats_after_0 m c),
    before0_1_of m (dats m 0 c) (dats_A m c 1) (dats_after_1 m c), before0_2_of m (dats m 0 c) (dats_A m c 2) (dats_after_2 m c)]
  rw [show (dats m 0 c).Φ t.succ = (dats m 0 c).Φ t.castSucc from rfl,
    show (dats m 0 c).owesAt () t.succ = (dats m 0 c).owesAt () t.castSucc from rfl,
    dats_after_0, dats_after_1, dats_after_2, dats_after_3,
    show (dats m 0 c).Φ t.castSucc = Pipeline.ΦA spec0 c from rfl, scratch_eq]
  unfold outAt
  iintro ⟨⟨⟨S0, S1, S2, S3, S4⟩, Hg⟩, Ho, ⟨%d0, H0⟩, ⟨%d1, H1⟩, ⟨%d2, H2⟩, ⟨%d3, H3⟩⟩
  iapply (run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  iexact H3

/-- The body table's row at a point is the body there. -/
theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- THE LAUNCH: every execution terminates with the arrays at what the proof data says and every counter at zero. -/
theorem launch_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem launch : θ_run defs (onTc (τ := τ) (main (F := F))) (s₀ m ρ) (Pipeline.FramePost cfgs (dats m) 0 (V m)) :=
  (θ_run defs _ _).mono (fun _ h => h.1) (launch_quiescent m ρ)

/-- THE FRAME: the arguments end as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (launch m ρ)) ((θ_run defs _ _).mono (fun _ h => h.2) (launch_quiescent m ρ))

/-- The run with the output's array named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((dats_A m c 0).trans (V_main_arg0 m c))),
      ((h c).1 1).trans (((dats m 0 c).arrAt_in 1 rfl _).trans ((dats_A m c 1).trans (V_main_arg1 m c))),
      ((h c).1 2).trans (((dats m 0 c).arrAt_in 2 rfl _).trans ((dats_A m c 2).trans (V_main_arg2 m c)))⟩)
    (launch m ρ)

end Cert.KernelIdeal.Flash

end
-- ==== Proof.AttnMath.lean ====
/-
  Softmax over the extended reals, computed block by block with a running maximum: the running maximum need only be some
  real number, and the quotient at the end does not depend on it.
-/
module

public import Idealize.ShloMosaic.PureOps.Ideal
public import Idealize.ShloMosaic.Lib.Pointwise

@[expose] public section

noncomputable section

namespace Cert.Softmax

open Idealize.ShloMosaic

/-- The largest of finitely many real numbers (at least one) is a real number. -/
theorem fold_max_real {B : ℕ} (hB : 0 < B) (f : Fin B → ℝ) :
    ∃ M : ℝ, Finset.univ.fold max (⊥ : EReal) (fun k => (f k : EReal)) = M := by
  refine ⟨(Finset.univ.fold max (⊥ : EReal) (fun k => (f k : EReal))).toReal, (EReal.coe_toReal ?_ ?_).symm⟩
  · exact ((Finset.fold_max_lt ⊤).2 ⟨bot_lt_top, fun k _ => EReal.coe_lt_top _⟩).ne
  · exact ((Finset.lt_fold_max ⊥).2 (Or.inr ⟨(⟨0, hB⟩ : Fin B), Finset.mem_univ _, EReal.bot_lt_coe _⟩)).ne'

/-- A real number below infinity distributes over a sum when it is not negative. -/
theorem mul_sum_real {r : ℝ} (hr : 0 ≤ r) {ι : Type} (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The sum of real numbers is the same in the extended reals. -/
theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The weight of a score against a level `M`. -/
def wt (σ : ℕ → ℝ) (M : ℝ) (k : ℕ) : ℝ := (2 : ℝ) ^ (σ k - M)

theorem wt_pos (σ : ℕ → ℝ) (M : ℝ) (k : ℕ) : 0 < wt σ M k := Real.rpow_pos_of_pos (by norm_num) _

theorem exp2_sub (a b : ℝ) : Ideal.exp2 ((a : EReal) - (b : EReal)) = (((2 : ℝ) ^ (a - b) : ℝ) : EReal) := by
  rw [← EReal.coe_sub]; rfl

theorem exp2_wt (σ : ℕ → ℝ) (M : ℝ) (k : ℕ) : Ideal.exp2 ((σ k : EReal) - (M : EReal)) = (wt σ M k : EReal) := exp2_sub _ _

/-- Moving the level from `M` to `M'` multiplies every weight by one factor. -/
theorem wt_shift (σ : ℕ → ℝ) (M M' : ℝ) (k : ℕ) : (2 : ℝ) ^ (M - M') * wt σ M k = wt σ M' k := by
  unfold wt
  rw [← Real.rpow_add (by norm_num)]
  congr 1; ring

/-- What the running state of one query says after the first `n` keys: nothing yet, or the sums of the weights against
    some level. -/
def Inv (σ : ℕ → ℝ) (v : Fin 128 → ℕ → EReal) (n : ℕ) (m l : EReal) (a : Fin 128 → EReal) : Prop :=
  (n = 0 ∧ m = ⊥ ∧ l = 0 ∧ ∀ d, a d = 0) ∨
  ∃ M : ℝ, m = M ∧ l = ∑ k ∈ Finset.range n, (wt σ M k : EReal)
    ∧ ∀ d, a d = ∑ k ∈ Finset.range n, v d k * (wt σ M k : EReal)

/-- One block of keys: the state stays what it says it is. -/
theorem Inv.step {σ : ℕ → ℝ} {v : Fin 128 → ℕ → EReal} {n : ℕ} {m l : EReal} {a : Fin 128 → EReal}
    (h : Inv σ v n m l a) {B : ℕ} (hB : 0 < B) {m' : EReal}
    (hm : m' = max m (Finset.univ.fold max (⊥ : EReal) fun k : Fin B => (σ (n + k.val) : EReal))) :
    Inv σ v (n + B) m'
      (Ideal.exp2 (m - m') * l + ∑ k : Fin B, Ideal.exp2 ((σ (n + k.val) : EReal) - m'))
      (fun d => Ideal.exp2 (m - m') * a d + ∑ k : Fin B, v d (n + k.val) * Ideal.exp2 ((σ (n + k.val) : EReal) - m')) := by
  obtain ⟨g, hg⟩ := fold_max_real hB fun k : Fin B => σ (n + k.val)
  rw [hg] at hm
  rcases h with ⟨h0, h1, h2, h3⟩ | ⟨M, h1, h2, h3⟩
  · subst h0
    have e : m' = (g : EReal) := by rw [hm, h1]; exact max_eq_right bot_le
    refine Or.inr ⟨g, e, ?_, fun d => ?_⟩
    · rw [h2, mul_zero, zero_add, zero_add, Finset.sum_range, e]
      exact Finset.sum_congr rfl fun k _ => by rw [zero_add, exp2_wt]
    · show _ * a d + _ = _
      rw [h3 d, mul_zero, zero_add, zero_add, Finset.sum_range, e]
      exact Finset.sum_congr rfl fun k _ => by rw [zero_add, exp2_wt]
  · have e : m' = ((max M g : ℝ) : EReal) := by rw [hm, h1]; exact (EReal.coe_strictMono.monotone.map_max).symm
    have hr : (0 : ℝ) ≤ (2 : ℝ) ^ (M - max M g) := (Real.rpow_pos_of_pos (by norm_num) _).le
    refine Or.inr ⟨max M g, e, ?_, fun d => ?_⟩
    · rw [h2, e, h1, exp2_sub, mul_sum_real hr, Finset.sum_range_add]
      congr 1
      · exact Finset.sum_congr rfl fun k _ => by rw [← EReal.coe_mul, wt_shift]
      · rw [Finset.sum_range]
        exact Finset.sum_congr rfl fun k _ => by rw [exp2_wt]
    · show _ * a d + _ = _
      rw [h3 d, e, h1, exp2_sub, mul_sum_real hr, Finset.sum_range_add]
      congr 1
      · exact Finset.sum_congr rfl fun k _ => by rw [mul_left_comm, ← EReal.coe_mul, wt_shift]
      · rw [Finset.sum_range]
        exact Finset.sum_congr rfl fun k _ => by rw [exp2_wt]

/-- The softmax weight of key `k` among the first `n`, of scores counted in powers of two. -/
def soft (σ : ℕ → ℝ) (n k : ℕ) : ℝ :=
  Real.exp (σ k * Real.log 2) / ∑ j ∈ Finset.range n, Real.exp (σ j * Real.log 2)

/-- The attention of one query: the values in the proportion of their softmax weights. -/
def attend (σ : ℕ → ℝ) (v : ℕ → EReal) (n : ℕ) : EReal :=
  ∑ k ∈ Finset.range n, v k * (soft σ n k : EReal)

theorem wt_exp (σ : ℕ → ℝ) (M : ℝ) (k : ℕ) :
    wt σ M k = Real.exp (-(M * Real.log 2)) * Real.exp (σ k * Real.log 2) := by
  unfold wt
  rw [← Real.exp_add, Real.rpow_def_of_pos (by norm_num)]
  congr 1; ring

theorem wt_soft (σ : ℕ → ℝ) (M : ℝ) (n k : ℕ) :
    (∑ j ∈ Finset.range n, wt σ M j)⁻¹ * wt σ M k = soft σ n k := by
  unfold soft
  simp only [wt_exp, ← Finset.mul_sum]
  rw [← div_eq_inv_mul, mul_div_mul_left _ _ (Real.exp_pos _).ne']

/-- The quotient at the end is the attention. -/
theorem Inv.quot {σ : ℕ → ℝ} {v : Fin 128 → ℕ → EReal} {n : ℕ} {m l : EReal} {a : Fin 128 → EReal}
    (h : Inv σ v n m l a) (hn : 0 < n) (d : Fin 128) : Ideal.div (a d) l = attend σ (v d) n := by
  rcases h with ⟨h0, _⟩ | ⟨M, _, h2, h3⟩
  · omega
  · have hpos : 0 < ∑ k ∈ Finset.range n, wt σ M k :=
      Finset.sum_pos (fun k _ => wt_pos σ M k) ⟨0, Finset.mem_range.2 hn⟩
    rw [h2, h3 d, coe_sum]
    unfold Ideal.div attend
    rw [if_neg (by exact_mod_cast hpos.ne'), ← EReal.coe_inv, mul_comm, mul_sum_real (inv_nonneg.2 hpos.le)]
    refine Finset.sum_congr rfl fun k _ => ?_
    rw [mul_left_comm, ← EReal.coe_mul, wt_soft]

/-- The softmax of the reference: the scores times the logarithm of two, against their largest. -/
theorem ref_soft (σ : ℕ → ℝ) {n : ℕ} (hn : 0 < n) (k : Fin n) {M : EReal}
    (hM : M = Finset.univ.fold max (⊥ : EReal) fun k : Fin n => ((σ k.val : EReal) * (Real.log 2 : EReal))) :
    Ideal.div (Ideal.exp ((σ k.val : EReal) * (Real.log 2 : EReal) - M))
      (∑ j : Fin n, Ideal.exp ((σ j.val : EReal) * (Real.log 2 : EReal) - M)) = (soft σ n k.val : EReal) := by
  obtain ⟨g, hg⟩ := fold_max_real hn fun k : Fin n => σ k.val * Real.log 2
  simp only [EReal.coe_mul] at hg
  rw [hg] at hM
  have e : ∀ j : ℕ, Ideal.exp ((σ j : EReal) * (Real.log 2 : EReal) - M)
      = ((Real.exp (-g) * Real.exp (σ j * Real.log 2) : ℝ) : EReal) := fun j => by
    rw [hM, ← EReal.coe_mul, ← EReal.coe_sub, ← Real.exp_add, neg_add_eq_sub]; rfl
  simp only [e]
  rw [← Finset.sum_range fun j => ((Real.exp (-g) * Real.exp (σ j * Real.log 2) : ℝ) : EReal), coe_sum]
  have hpos : 0 < ∑ j ∈ Finset.range n, Real.exp (-g) * Real.exp (σ j * Real.log 2) :=
    Finset.sum_pos (fun k _ => by positivity) ⟨0, Finset.mem_range.2 hn⟩
  unfold Ideal.div
  rw [if_neg (by exact_mod_cast hpos.ne'), ← EReal.coe_inv, ← EReal.coe_mul, ← div_eq_mul_inv, ← Finset.mul_sum,
    mul_div_mul_left _ _ (Real.exp_pos _).ne']
  rfl

/-- A dot product of real numbers is a real number. -/
theorem dot_real {ι : Type} (s : Finset ι) (f g : ι → EReal) (hf : ∀ i, f i ≠ ⊤ ∧ f i ≠ ⊥) (hg : ∀ i, g i ≠ ⊤ ∧ g i ≠ ⊥) :
    ((∑ i ∈ s, f i * g i : EReal).toReal : EReal) = ∑ i ∈ s, f i * g i := by
  have e : ∑ i ∈ s, f i * g i = ((∑ i ∈ s, (f i).toReal * (g i).toReal : ℝ) : EReal) := by
    rw [← coe_sum]
    refine Finset.sum_congr rfl fun i _ => ?_
    rw [EReal.coe_mul, EReal.coe_toReal (hf i).1 (hf i).2, EReal.coe_toReal (hg i).1 (hg i).2]
  rw [e, EReal.toReal_coe]

end Cert.Softmax
-- ==== Proof.AttnPay.lean ====
/-
  The attention kernel's payloads read at an index, and the running state of one query along its body.
-/
module

public import proofs.«01_k».proof.Proof.AttnIdealRun
public import proofs.«01_k».proof.Proof.AttnMath
public import Idealize.ShloMosaic.Lib.Pipeline.Value
public import Idealize.ShloMosaic.Lib.Pointwise

@[expose] public section

noncomputable section

namespace Cert.AttnValue

open Idealize.ShloMosaic Idealize.SL Idealize.SL.Sem
open Cert.KernelIdeal Cert.KernelIdeal.Gen Cert.Softmax

/-- The row, among eight equal ones, that row `r` of a tiled array repeats. -/
def row8 (r : ℕ) : Fin 8 := ⟨r % 8, Nat.mod_lt _ (by decide)⟩

theorem tile_copies {N : ℕ} {R : ℕ} (X : FVec Ideal S8x1024 .f32)
    (h : Shape.Concatenates ((List.replicate N (⟨S8x1024, X⟩ : (s : Shape) × (s.Idx → EReal))).map (·.1)) ⟨2, ![R, 1024]⟩ 0)
    (r : Fin R) (c : Fin 1024) :
    concatenate (⟨2, ![R, 1024]⟩ : Shape) 0 (List.replicate N (⟨S8x1024, X⟩ : (s : Shape) × (s.Idx → EReal))) h (ix2 r c)
      = X (ix2 (row8 r.val) c) :=
  concatenate_replicate_apply (t := ⟨2, ![R, 1024]⟩) (s₁ := S8x1024) 0 N X h rfl (ix2 r c) (ix2 (row8 r.val) c) rfl
    fun b hb => by
      match b with
      | ⟨0, _⟩ => exact absurd rfl hb
      | ⟨1, _⟩ => rfl

theorem tile16 (X : FVec Ideal S8x1024 .f32) (h) : concatenate S128x1024 0
    [⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩, ⟨S8x1024, X⟩] h
      = fun i => X (ix2 (row8 (i 0).val) (i 1)) := by
  funext i
  have hi : i = ix2 (i 0 : Fin 128) (i 1 : Fin 1024) := by
    funext a; match a with
    | ⟨0, _⟩ => rfl
    | ⟨1, _⟩ => rfl
  rw [hi]
  exact tile_copies (N := 16) (R := 128) X h (i 0) (i 1)

theorem pay5_at (s : Vec Ideal S512x1024 .f32) (m : Vec Ideal S8x1024 .f32) (r : Fin 8) (c : Fin 1024) :
    k0_pay5 s m (ix2 r c)
      = max (m (ix2 r c) : EReal) (Finset.univ.fold max (⊥ : EReal) fun x : Fin 512 => (s (ix2 x c) : EReal)) := by
  have hb : Ideal.ofBits FTy.f32 4286578688#32 = (⊥ : EReal) := by
    simp [Ideal.ofBits, Ideal.ieee]
  pointwise [k0_pay5]
  rw [hb]

theorem pay6_at (s : Vec Ideal S512x1024 .f32) (m : Vec Ideal S8x1024 .f32) (r : Fin 512) (c : Fin 1024) :
    k0_pay6 s m (ix2 r c) = Ideal.exp2 ((s (ix2 r c) : EReal) - k0_pay5 s m (ix2 (row8 r.val) c)) := by
  unfold k0_pay6
  exact congrArg (fun z : EReal => Ideal.exp2 ((s (ix2 r c) : EReal) - z)) (tile_copies (N := 64) (R := 512) (k0_pay5 s m) _ r c)

theorem pay7_at (s : Vec Ideal S512x1024 .f32) (m : Vec Ideal S8x1024 .f32) (r : Fin 8) (c : Fin 1024) :
    k0_pay7 s m (ix2 r c) = Ideal.exp2 ((m (ix2 r c) : EReal) - k0_pay5 s m (ix2 r c)) := by
  pointwise [k0_pay7]
  rfl

theorem pay8_at (s : Vec Ideal S512x1024 .f32) (m l : Vec Ideal S8x1024 .f32) (r : Fin 8) (c : Fin 1024) :
    k0_pay8 s m l (ix2 r c)
      = (k0_pay7 s m (ix2 r c) : EReal) * l (ix2 r c) + ∑ x : Fin 512, (k0_pay6 s m (ix2 x c) : EReal) := by
  pointwise [k0_pay8]

/-- Four chunks of values side by side. -/
def vals4 (V0 V1 V2 V3 : Vec Ideal S1x1x1x128x128 .bf16) (d : Fin 128) (x : Fin 512) : EReal :=
  if x.val < 128 then V0 (ix5 0 0 0 d ⟨x.val % 128, by omega⟩) else if x.val < 256 then V1 (ix5 0 0 0 d ⟨x.val % 128, by omega⟩)
    else if x.val < 384 then V2 (ix5 0 0 0 d ⟨x.val % 128, by omega⟩) else V3 (ix5 0 0 0 d ⟨x.val % 128, by omega⟩)

theorem pay9_at (p : FVec Ideal S512x1024 .f32) (α : FVec Ideal S8x1024 .f32) (V0 V1 V2 V3 : Vec Ideal S1x1x1x128x128 .bf16)
    (a : Vec Ideal S128x1024 .f32) (d : Fin 128) (c : Fin 1024) :
    k0_pay9 p α V0 V1 V2 V3 a (ix2 d c)
      = (α (ix2 (row8 d.val) c) : EReal) * a (ix2 d c) + ∑ x : Fin 512, vals4 V0 V1 V2 V3 d x * (p (ix2 x c) : EReal) := by
  unfold k0_pay9
  rw [tile16]
  pointwise
  refine congrArg _ (Finset.sum_congr rfl fun x _ => congrArg (fun z : EReal => z * (p (ix2 x c) : EReal)) ?_)
  have hx := x.isLt
  unfold vals4
  by_cases h0 : x.val < 128
  · rw [dif_pos h0, if_pos h0]
    exact congrArg V0 (congrArg (ix5 0 0 0 d) (Fin.ext (by show x.val = x.val % 128; omega)))
  by_cases h1 : x.val < 256
  · rw [dif_neg h0, dif_pos (by omega), if_neg h0, if_pos h1]
    exact congrArg V1 (congrArg (ix5 0 0 0 d) (Fin.ext (by show x.val - 128 = x.val % 128; omega)))
  by_cases h2 : x.val < 384
  · rw [dif_neg h0, dif_neg (by omega), dif_pos (by omega), if_neg h0, if_neg h1, if_pos h2]
    exact congrArg V2 (congrArg (ix5 0 0 0 d) (Fin.ext (by show x.val - 128 - 128 = x.val % 128; omega)))
  · rw [dif_neg h0, dif_neg (by omega), dif_neg (by omega), if_neg h0, if_neg h1, if_neg h2]
    exact congrArg V3 (congrArg (ix5 0 0 0 d) (Fin.ext (by show x.val - 128 - 128 - 128 = x.val % 128; omega)))

/-- Two chunks of values side by side. -/
def vals2 (V0 V1 : Vec Ideal S1x1x1x128x128 .bf16) (d : Fin 128) (x : Fin 256) : EReal :=
  if x.val < 128 then V0 (ix5 0 0 0 d ⟨x.val % 128, by omega⟩) else V1 (ix5 0 0 0 d ⟨x.val % 128, by omega⟩)

theorem pay41_at (s : Vec Ideal S256x1024 .f32) (m : Vec Ideal S8x1024 .f32) (r : Fin 8) (c : Fin 1024) :
    k0_pay41 s m (ix2 r c)
      = max (m (ix2 r c) : EReal) (Finset.univ.fold max (⊥ : EReal) fun x : Fin 256 => (s (ix2 x c) : EReal)) := by
  have hb : Ideal.ofBits FTy.f32 4286578688#32 = (⊥ : EReal) := by
    simp [Ideal.ofBits, Ideal.ieee]
  pointwise [k0_pay41]
  rw [hb]

theorem pay42_at (s : Vec Ideal S256x1024 .f32) (m : Vec Ideal S8x1024 .f32) (r : Fin 256) (c : Fin 1024) :
    k0_pay42 s m (ix2 r c) = Ideal.exp2 ((s (ix2 r c) : EReal) - k0_pay41 s m (ix2 (row8 r.val) c)) := by
  unfold k0_pay42
  exact congrArg (fun z : EReal => Ideal.exp2 ((s (ix2 r c) : EReal) - z)) (tile_copies (N := 32) (R := 256) (k0_pay41 s m) _ r c)

theorem pay43_at (s : Vec Ideal S256x1024 .f32) (m : Vec Ideal S8x1024 .f32) (r : Fin 8) (c : Fin 1024) :
    k0_pay43 s m (ix2 r c) = Ideal.exp2 ((m (ix2 r c) : EReal) - k0_pay41 s m (ix2 r c)) := by
  pointwise [k0_pay43]
  rfl

theorem pay44_at (s : Vec Ideal S256x1024 .f32) (m l : Vec Ideal S8x1024 .f32) (r : Fin 8) (c : Fin 1024) :
    k0_pay44 s m l (ix2 r c)
      = (k0_pay43 s m (ix2 r c) : EReal) * l (ix2 r c) + ∑ x : Fin 256, (k0_pay42 s m (ix2 x c) : EReal) := by
  pointwise [k0_pay44]

theorem pay45_at (s : Vec Ideal S256x1024 .f32) (m : Vec Ideal S8x1024 .f32) (V0 V1 : Vec Ideal S1x1x1x128x128 .bf16)
    (a : Vec Ideal S128x1024 .f32) (d : Fin 128) (c : Fin 1024) :
    k0_pay45 s m V0 V1 a (ix2 d c)
      = (k0_pay43 s m (ix2 (row8 d.val) c) : EReal) * a (ix2 d c)
        + ∑ x : Fin 256, vals2 V0 V1 d x * (k0_pay42 s m (ix2 x c) : EReal) := by
  unfold k0_pay45
  rw [tile16]
  pointwise
  refine congrArg _ (Eq.symm ?_)
  refine (Fin.sum_univ_add (a := 128) (b := 128) fun x => vals2 V0 V1 d x * (k0_pay42 s m (ix2 x c) : EReal)).trans ?_
  refine congrArg₂ (fun a b : EReal => a + b) (Finset.sum_congr rfl fun x _ => ?_) (Finset.sum_congr rfl fun x _ => ?_)
  · have hx := x.isLt
    refine congrArg₂ (fun a b : EReal => a * b) ?_ rfl
    unfold vals2
    rw [if_pos (show (Fin.castAdd 128 x).val < 128 from hx)]
    exact congrArg V0 (congrArg (ix5 0 0 0 d) (Fin.ext (by show x.val % 128 = x.val; omega)))
  · have hx := x.isLt
    refine congrArg₂ (fun a b : EReal => a * b) ?_ rfl
    unfold vals2
    rw [if_neg (show ¬ (Fin.natAdd 128 x).val < 128 by show ¬ 128 + x.val < 128; omega)]
    exact congrArg V1 (congrArg (ix5 0 0 0 d) (Fin.ext (by show (128 + x.val) % 128 = x.val; omega)))

theorem pay3_at (a : Vec Ideal S128x1024 .f32) (l : Vec Ideal S8x1024 .f32) (r : Fin 1024) (d : Fin 128) :
    k0_pay3 a l (ix3 0 r d) = Ideal.div (a (ix2 d r)) (l (ix2 (row8 d.val) r)) := by
  unfold k0_pay3
  rw [tile16]
  pointwise

theorem pay1_at (a : FVec Ideal S128x1024 .f32) (d : Fin 128) (c : Fin 1024) : k0_pay1 a (ix2 d c) = a (ix2 d c) := by
  pointwise [k0_pay1]

theorem pay10_at (a : FVec Ideal S8x1024 .f32) (r : Fin 8) (c : Fin 1024) : k0_pay10 a (ix2 r c) = a (ix2 r c) := by
  pointwise [k0_pay10]

end Cert.AttnValue
-- ==== Proof.AttnState.lean ====
/-
  The attention kernel's body as a walk over blocks of keys: after every block the running state of each query says what
  the online softmax says, so that the block it leaves is attention.
-/
module

public import proofs.«01_k».proof.Proof.AttnPay

@[expose] public section

noncomputable section

namespace Cert.AttnValue

open Idealize.ShloMosaic Idealize.SL Idealize.SL.Sem
open Cert.KernelIdeal Cert.KernelIdeal.Gen Cert.KernelIdeal.Flash Cert.Softmax

/-- The running state of the query in column `c`: its eight copies agree, and say what the online softmax says. -/
def Col (σ : ℕ → ℝ) (v : Fin 128 → ℕ → EReal) (n : ℕ) (m l : Vec Ideal S8x1024 .f32) (a : Vec Ideal S128x1024 .f32)
    (c : Fin 1024) : Prop :=
  ∃ μ lam : EReal, (∀ r : Fin 8, m (ix2 r c) = μ) ∧ (∀ r : Fin 8, l (ix2 r c) = lam)
    ∧ Inv σ v n μ lam fun d => a (ix2 d c)

theorem vals4_eq {v : Fin 128 → ℕ → EReal} {n : ℕ} {V0 V1 V2 V3 : Vec Ideal S1x1x1x128x128 .bf16}
    (h0 : ∀ d x : Fin 128, V0 (ix5 0 0 0 d x) = v d (n + x.val)) (h1 : ∀ d x : Fin 128, V1 (ix5 0 0 0 d x) = v d (n + 128 + x.val))
    (h2 : ∀ d x : Fin 128, V2 (ix5 0 0 0 d x) = v d (n + 256 + x.val)) (h3 : ∀ d x : Fin 128, V3 (ix5 0 0 0 d x) = v d (n + 384 + x.val))
    (d : Fin 128) (x : Fin 512) : vals4 V0 V1 V2 V3 d x = v d (n + x.val) := by
  have hx := x.isLt
  unfold vals4
  split_ifs with a b e
  · rw [h0]; exact congrArg (v d) (by show n + x.val % 128 = _; omega)
  · rw [h1]; exact congrArg (v d) (by show n + 128 + x.val % 128 = _; omega)
  · rw [h2]; exact congrArg (v d) (by show n + 256 + x.val % 128 = _; omega)
  · rw [h3]; exact congrArg (v d) (by show n + 384 + x.val % 128 = _; omega)

theorem vals2_eq {v : Fin 128 → ℕ → EReal} {n : ℕ} {V0 V1 : Vec Ideal S1x1x1x128x128 .bf16}
    (h0 : ∀ d x : Fin 128, V0 (ix5 0 0 0 d x) = v d (n + x.val)) (h1 : ∀ d x : Fin 128, V1 (ix5 0 0 0 d x) = v d (n + 128 + x.val))
    (d : Fin 128) (x : Fin 256) : vals2 V0 V1 d x = v d (n + x.val) := by
  have hx := x.isLt
  unfold vals2
  split_ifs with a
  · rw [h0]; exact congrArg (v d) (by show n + x.val % 128 = _; omega)
  · rw [h1]; exact congrArg (v d) (by show n + 128 + x.val % 128 = _; omega)

/-- A block of 512 keys taken in. -/
theorem Col.step {σ : ℕ → ℝ} {v : Fin 128 → ℕ → EReal} {n : ℕ} {m l : Vec Ideal S8x1024 .f32} {a : Vec Ideal S128x1024 .f32}
    {c : Fin 1024} (h : Col σ v n m l a c) {s : Vec Ideal S512x1024 .f32} (hs : ∀ j : Fin 512, s (ix2 j c) = (σ (n + j.val) : EReal))
    {V0 V1 V2 V3 : Vec Ideal S1x1x1x128x128 .bf16}
    (h0 : ∀ d x : Fin 128, V0 (ix5 0 0 0 d x) = v d (n + x.val)) (h1 : ∀ d x : Fin 128, V1 (ix5 0 0 0 d x) = v d (n + 128 + x.val))
    (h2 : ∀ d x : Fin 128, V2 (ix5 0 0 0 d x) = v d (n + 256 + x.val)) (h3 : ∀ d x : Fin 128, V3 (ix5 0 0 0 d x) = v d (n + 384 + x.val)) :
    Col σ v (n + 512) (k0_pay10 (k0_pay5 s m)) (k0_pay8 s m l) (k0_pay9 (k0_pay6 s m) (k0_pay7 s m) V0 V1 V2 V3 a) c := by
  obtain ⟨μ, lam, hm, hl, hi⟩ := h
  have e5 : ∀ r : Fin 8, k0_pay5 s m (ix2 r c)
      = max μ (Finset.univ.fold max (⊥ : EReal) fun k : Fin 512 => (σ (n + k.val) : EReal)) := fun r => by
    rw [pay5_at, hm]; simp only [hs]
  have key := hi.step (B := 512) (by decide) rfl
  have ha := funext fun d : Fin 128 => ((pay9_at (k0_pay6 s m) (k0_pay7 s m) V0 V1 V2 V3 a d c).trans
    (congrArg₂ (fun x y : EReal => x * a (ix2 d c) + y)
      ((pay7_at s m (row8 d.val) c).trans (by rw [hm, e5]))
      (Finset.sum_congr rfl fun x _ => by rw [vals4_eq h0 h1 h2 h3, pay6_at, hs, e5])))
  refine ⟨_, Ideal.exp2 (μ - max μ (Finset.univ.fold max (⊥ : EReal) fun k : Fin 512 => (σ (n + k.val) : EReal))) * lam
    + ∑ k : Fin 512, Ideal.exp2 ((σ (n + k.val) : EReal)
      - max μ (Finset.univ.fold max (⊥ : EReal) fun k : Fin 512 => (σ (n + k.val) : EReal))), fun r => (pay10_at _ r c).trans (e5 r), fun r => ?_, ?_⟩
  · rw [pay8_at, pay7_at, hm, e5, hl]
    congr 1
    exact Finset.sum_congr rfl fun x _ => by rw [pay6_at, hs, e5]
  · rw [ha]
    exact key

/-- The last block, of 256 keys. -/
theorem Col.last {σ : ℕ → ℝ} {v : Fin 128 → ℕ → EReal} {n : ℕ} {m l : Vec Ideal S8x1024 .f32} {a : Vec Ideal S128x1024 .f32}
    {c : Fin 1024} (h : Col σ v n m l a c) {s : Vec Ideal S256x1024 .f32} (hs : ∀ j : Fin 256, s (ix2 j c) = (σ (n + j.val) : EReal))
    {V0 V1 : Vec Ideal S1x1x1x128x128 .bf16}
    (h0 : ∀ d x : Fin 128, V0 (ix5 0 0 0 d x) = v d (n + x.val)) (h1 : ∀ d x : Fin 128, V1 (ix5 0 0 0 d x) = v d (n + 128 + x.val)) :
    Col σ v (n + 256) (k0_pay41 s m) (k0_pay44 s m l) (k0_pay45 s m V0 V1 a) c := by
  obtain ⟨μ, lam, hm, hl, hi⟩ := h
  have e5 : ∀ r : Fin 8, k0_pay41 s m (ix2 r c)
      = max μ (Finset.univ.fold max (⊥ : EReal) fun k : Fin 256 => (σ (n + k.val) : EReal)) := fun r => by
    rw [pay41_at, hm]; simp only [hs]
  have key := hi.step (B := 256) (by decide) rfl
  have ha := funext fun d : Fin 128 => ((pay45_at s m V0 V1 a d c).trans
    (congrArg₂ (fun x y : EReal => x * a (ix2 d c) + y)
      ((pay43_at s m (row8 d.val) c).trans (by rw [hm, e5]))
      (Finset.sum_congr rfl fun x _ => by rw [vals2_eq h0 h1, pay42_at, hs, e5])))
  refine ⟨_, Ideal.exp2 (μ - max μ (Finset.univ.fold max (⊥ : EReal) fun k : Fin 256 => (σ (n + k.val) : EReal))) * lam
    + ∑ k : Fin 256, Ideal.exp2 ((σ (n + k.val) : EReal)
      - max μ (Finset.univ.fold max (⊥ : EReal) fun k : Fin 256 => (σ (n + k.val) : EReal))), e5, fun r => ?_, ?_⟩
  · rw [pay44_at, pay43_at, hm, e5, hl]
    congr 1
    exact Finset.sum_congr rfl fun x _ => by rw [pay42_at, hs, e5]
  · rw [ha]
    exact key

/-- The quotient of a column. -/
theorem Col.quot {σ : ℕ → ℝ} {v : Fin 128 → ℕ → EReal} {n : ℕ} {m l : Vec Ideal S8x1024 .f32} {a : Vec Ideal S128x1024 .f32}
    {c : Fin 1024} (h : Col σ v n m l a c) (hn : 0 < n) (d : Fin 128) :
    k0_pay3 (k0_pay1 a) l (ix3 0 c d) = attend σ (v d) n := by
  obtain ⟨μ, lam, hm, hl, hi⟩ := h
  rw [pay3_at, pay1_at, hl]
  exact hi.quot hn d

variable (x0 : Vec Ideal S1x1x256x1024 .bf16) (x1 : Vec Ideal S1x1x16640x256 .bf16) (x2 : Vec Ideal S1x1x130x128x128 .bf16)

/-- The score of column `c` against key `j` of the block. -/
def scoreB (c : Fin 1024) (j : ℕ) : ℝ :=
  if hj : j < 16640 then (∑ x, (x1 (ix4 0 0 ⟨j, hj⟩ x) : EReal) * x0 (ix4 0 0 x c)).toReal else 0

/-- Lane `d` of key `j`'s values. -/
def valB (d : Fin 128) (j : ℕ) : EReal :=
  if hj : j < 16640 then x2 (ix5 0 0 ⟨j / 128, by omega⟩ d ⟨j % 128, by omega⟩) else 0

/-- A load of 512 keys. -/
theorem ld_keys (off : Fin 4 → ℕ) (o : ℕ) (hoff : off = ![0, 0, o, 0]) (ho : o + 512 ≤ 16640) (p) (j : Fin 512) (d : Fin 256) :
    View.ld x1 (Rect.unit (s := S1x1x16640x256) off S1x1x512x256.size p) (ix4 0 0 j d)
      = x1 (ix4 0 0 ⟨o + j.val, by omega⟩ d) := by
  subst hoff
  refine congrArg x1 ?_
  funext a
  match a with
  | ⟨0, _⟩ => rfl
  | ⟨1, _⟩ => rfl
  | ⟨2, _⟩ => exact Fin.ext (by show o + 1 * j.val = o + j.val; omega)
  | ⟨3, _⟩ => exact Fin.ext (by show 0 + 1 * d.val = d.val; omega)

theorem ld_keys_last (p) (j : Fin 256) (d : Fin 256) :
    View.ld x1 (Rect.unit (s := S1x1x16640x256) ![0, 0, 16384, 0] S1x1x256x256.size p) (ix4 0 0 j d)
      = x1 (ix4 0 0 ⟨16384 + j.val, by omega⟩ d) := by
  refine congrArg x1 ?_
  funext a
  match a with
  | ⟨0, _⟩ => rfl
  | ⟨1, _⟩ => rfl
  | ⟨2, _⟩ => exact Fin.ext (by show 16384 + 1 * j.val = 16384 + j.val; omega)
  | ⟨3, _⟩ => exact Fin.ext (by show 0 + 1 * d.val = d.val; omega)

/-- A load of one chunk of values. -/
theorem ld_vals (off : Fin 5 → ℕ) (q : ℕ) (hoff : off = ![0, 0, q, 0, 0]) (hq : q < 130) (p) (n : ℕ) (hn : n = 128 * q) (d x : Fin 128) :
    View.ld x2 (Rect.unit (s := S1x1x130x128x128) off S1x1x1x128x128.size p) (ix5 0 0 0 d x) = valB x2 d (n + x.val) := by
  subst hoff hn
  have hx := x.isLt
  unfold valB
  rw [dif_pos (by omega)]
  refine congrArg x2 ?_
  funext a
  match a with
  | ⟨0, _⟩ => rfl
  | ⟨1, _⟩ => rfl
  | ⟨2, _⟩ => exact Fin.ext (by show q + 1 * 0 = (128 * q + x.val) / 128; omega)
  | ⟨3, _⟩ => exact Fin.ext (by show 0 + 1 * d.val = d.val; omega)
  | ⟨4, _⟩ => exact Fin.ext (by show 0 + 1 * x.val = (128 * q + x.val) % 128; omega)

theorem pay4_at (qT : FVec Ideal S256x1024 .bf16) (K : Vec Ideal S1x1x512x256 .bf16) (r : Fin 512) (c : Fin 1024) :
    k0_pay4 qT K (ix2 r c) = ∑ x, (K (ix4 0 0 r x) : EReal) * qT (ix2 x c) := by
  pointwise [k0_pay4]

theorem pay34_at (qT : FVec Ideal S256x1024 .bf16) (K : Vec Ideal S1x1x256x256 .bf16) (r : Fin 256) (c : Fin 1024) :
    k0_pay34 qT K (ix2 r c) = ∑ x, (K (ix4 0 0 r x) : EReal) * qT (ix2 x c) := by
  pointwise [k0_pay34]

theorem pay16_at (r : Fin 256) (c : Fin 1024) : k0_pay16 x0 (ix2 r c) = x0 (ix4 0 0 r c) := by
  pointwise [k0_pay16]

variable (hq : ∀ i, (x0 i : EReal) ≠ ⊤ ∧ (x0 i : EReal) ≠ ⊥) (hk : ∀ i, (x1 i : EReal) ≠ ⊤ ∧ (x1 i : EReal) ≠ ⊥)

include hq hk

/-- The scores of a block of 512 keys. -/
theorem scores_at (off : Fin 4 → ℕ) (o : ℕ) (hoff : off = ![0, 0, o, 0]) (ho : o + 512 ≤ 16640) (p) (j : Fin 512) (c : Fin 1024) :
    k0_pay4 (k0_pay16 x0) (View.ld x1 (Rect.unit (s := S1x1x16640x256) off S1x1x512x256.size p)) (ix2 j c)
      = (scoreB x0 x1 c (o + j.val) : EReal) := by
  rw [pay4_at]
  simp only [ld_keys x1 off o hoff ho p, pay16_at]
  unfold scoreB
  rw [dif_pos (by omega), dot_real _ _ _ (fun x => hk _) (fun x => hq _)]

theorem scores_last (p) (j : Fin 256) (c : Fin 1024) :
    k0_pay34 (k0_pay16 x0) (View.ld x1 (Rect.unit (s := S1x1x16640x256) ![0, 0, 16384, 0] S1x1x256x256.size p)) (ix2 j c)
      = (scoreB x0 x1 c (16384 + j.val) : EReal) := by
  rw [pay34_at]
  simp only [ld_keys_last x1 p, pay16_at]
  unfold scoreB
  rw [dif_pos (by omega), dot_real _ _ _ (fun x => hk _) (fun x => hq _)]

end Cert.AttnValue
-- ==== Proof.AttnLoop.lean ====
/-
  The attention kernel's running state along its loop and its tail, and the block the body leaves.
-/
module

public import proofs.«01_k».proof.Proof.AttnState

@[expose] public section

noncomputable section

namespace Cert.AttnValue

open Idealize.ShloMosaic Idealize.SL Idealize.SL.Sem
open Cert.KernelIdeal Cert.KernelIdeal.Gen Cert.KernelIdeal.Flash Cert.Softmax

/-! ### Where the loads of a trip lie -/

theorem off1_one : ∀ k : Fin k0_t1_loop.trips, k0_off1 k 1#32 = ![0, 0, 1024 * k.val + 512, 0] := by decide +kernel
theorem off1_two : ∀ k : Fin k0_t1_loop.trips, k0_off1 k 2#32 = ![0, 0, 1024 * k.val + 1024, 0] := by decide +kernel
theorem off2_zero : ∀ k : Fin k0_t1_loop.trips, k0_off2 k 0#32 = ![0, 0, 8 * k.val, 0, 0] := by decide +kernel
theorem off2_one : ∀ k : Fin k0_t1_loop.trips, k0_off2 k 1#32 = ![0, 0, 8 * k.val + 1, 0, 0] := by decide +kernel
theorem off2_two : ∀ k : Fin k0_t1_loop.trips, k0_off2 k 2#32 = ![0, 0, 8 * k.val + 2, 0, 0] := by decide +kernel
theorem off2_three : ∀ k : Fin k0_t1_loop.trips, k0_off2 k 3#32 = ![0, 0, 8 * k.val + 3, 0, 0] := by decide +kernel
theorem off3_zero : ∀ k : Fin k0_t1_loop.trips, k0_off3 k 0#32 = ![0, 0, 8 * k.val + 4, 0, 0] := by decide +kernel
theorem off3_one : ∀ k : Fin k0_t1_loop.trips, k0_off3 k 1#32 = ![0, 0, 8 * k.val + 5, 0, 0] := by decide +kernel
theorem off3_two : ∀ k : Fin k0_t1_loop.trips, k0_off3 k 2#32 = ![0, 0, 8 * k.val + 6, 0, 0] := by decide +kernel
theorem off3_three : ∀ k : Fin k0_t1_loop.trips, k0_off3 k 3#32 = ![0, 0, 8 * k.val + 7, 0, 0] := by decide +kernel
theorem trips_eq : k0_t1_loop.trips = 15 := by decide +kernel

/-- The state before trip `k` in column `c`: `1024 k` keys taken in, and the next block's scores at hand. -/
def Good (x0 : Vec Ideal S1x1x256x1024 .bf16) (x1 : Vec Ideal S1x1x16640x256 .bf16) (x2 : Vec Ideal S1x1x130x128x128 .bf16)
    (c : Fin 1024) (n : ℕ) (S : St Ideal) : Prop :=
  Col (scoreB x0 x1 c) (valB x2) n S.m S.l S.a c ∧ ∀ j : Fin 512, S.s (ix2 j c) = (scoreB x0 x1 c (n + j.val) : EReal)

variable {x0 : Vec Ideal S1x1x256x1024 .bf16} {x1 : Vec Ideal S1x1x16640x256 .bf16} {x2 : Vec Ideal S1x1x130x128x128 .bf16}
variable (hq : ∀ i, (x0 i : EReal) ≠ ⊤ ∧ (x0 i : EReal) ≠ ⊥) (hk : ∀ i, (x1 i : EReal) ≠ ⊤ ∧ (x1 i : EReal) ≠ ⊥)

theorem pay17_at (i : S8x1024.Idx) : (k0_pay17 : FVec Ideal S8x1024 .f32) i = (⊥ : EReal) := by
  have hb : Ideal.ofBits FTy.f32 4286578688#32 = (⊥ : EReal) := by
    simp [Ideal.ofBits, Ideal.ieee]
  unfold k0_pay17
  rw [shapeCast_self]
  exact hb

theorem pay18_at (i : S8x1024.Idx) : (k0_pay18 : FVec Ideal S8x1024 .f32) i = (0 : EReal) := by
  have hb : Ideal.ofBits FTy.f32 0x00000000#32 = (0 : EReal) := by
    simp [Ideal.ofBits, Ideal.ieee]
  unfold k0_pay18
  rw [shapeCast_self]
  exact hb

theorem pay19_at (i : S128x1024.Idx) : (k0_pay19 : FVec Ideal S128x1024 .f32) i = (0 : EReal) := by
  have hb : Ideal.ofBits FTy.f32 0x00000000#32 = (0 : EReal) := by
    simp [Ideal.ofBits, Ideal.ieee]
  unfold k0_pay19
  rw [shapeCast_self]
  exact hb

include hq hk

theorem good_init (c : Fin 1024) : Good x0 x1 x2 c 0 (St.init x0 x1) :=
  ⟨⟨⊥, 0, fun r => pay17_at (ix2 r c), fun r => pay18_at (ix2 r c), Or.inl ⟨rfl, rfl, rfl, fun d => pay19_at (ix2 d c)⟩⟩,
    fun j => scores_at x0 x1 hq hk _ 0 rfl (by decide) _ j c⟩

theorem good_next (c : Fin 1024) (k : Fin k0_t1_loop.trips) (S : St Ideal) (h : Good x0 x1 x2 c (1024 * k.val) S) :
    Good x0 x1 x2 c (1024 * (k.val + 1)) (St.next x0 x1 x2 k S) := by
  have hk15 : k.val < 15 := trips_eq ▸ k.isLt
  obtain ⟨hc, hs⟩ := h
  have c1 := hc.step hs
    (ld_vals x2 _ _ (off2_zero k) (by omega) (k0_off2_inb k 0) (1024 * k.val) (by omega))
    (ld_vals x2 _ _ (off2_one k) (by omega) (k0_off2_inb k 1) (1024 * k.val + 128) (by omega))
    (ld_vals x2 _ _ (off2_two k) (by omega) (k0_off2_inb k 2) (1024 * k.val + 256) (by omega))
    (ld_vals x2 _ _ (off2_three k) (by omega) (k0_off2_inb k 3) (1024 * k.val + 384) (by omega))
  have c2 := c1.step (fun j => scores_at x0 x1 hq hk _ _ (off1_one k) (by omega) (k0_off1_inb k 0) j c)
    (ld_vals x2 _ _ (off3_zero k) (by omega) (k0_off3_inb k 0) (1024 * k.val + 512) (by omega))
    (ld_vals x2 _ _ (off3_one k) (by omega) (k0_off3_inb k 1) (1024 * k.val + 512 + 128) (by omega))
    (ld_vals x2 _ _ (off3_two k) (by omega) (k0_off3_inb k 2) (1024 * k.val + 512 + 256) (by omega))
    (ld_vals x2 _ _ (off3_three k) (by omega) (k0_off3_inb k 3) (1024 * k.val + 512 + 384) (by omega))
  have e : 1024 * (k.val + 1) = 1024 * k.val + 512 + 512 := by omega
  refine ⟨?_, fun j => ?_⟩
  · rw [e]
    exact c2
  · have := scores_at x0 x1 hq hk _ _ (off1_two k) (by omega) (k0_off1_inb k 1) j c
    rw [e]
    exact this

theorem good_at (c : Fin 1024) : ∀ k : ℕ, k ≤ k0_t1_loop.trips → Good x0 x1 x2 c (1024 * k) (St.at x0 x1 x2 (St.init x0 x1) k)
  | 0, _ => good_init hq hk c
  | k + 1, h => by
    have hs := St.at_succ x0 x1 x2 (St.init x0 x1) ⟨k, h⟩
    have hn := good_next hq hk c ⟨k, h⟩ _ (good_at c k (Nat.le_of_succ_le h))
    exact hs ▸ hn

theorem good_out (c : Fin 1024) (S : St Ideal) (h : Good x0 x1 x2 c 15360 S) (d : Fin 128) :
    St.out x0 x1 x2 S (ix3 0 c d) = attend (scoreB x0 x1 c) (valB x2 d) 16640 := by
  obtain ⟨hc, hs⟩ := h
  have c1 := hc.step hs
    (ld_vals x2 _ 120 rfl (by decide) inb_S1x1x130x128x128_S1x1x1x128x128_0_0_120_0_0 _ (by decide))
    (ld_vals x2 _ 121 rfl (by decide) inb_S1x1x130x128x128_S1x1x1x128x128_0_0_121_0_0 _ (by decide))
    (ld_vals x2 _ 122 rfl (by decide) inb_S1x1x130x128x128_S1x1x1x128x128_0_0_122_0_0 _ (by decide))
    (ld_vals x2 _ 123 rfl (by decide) inb_S1x1x130x128x128_S1x1x1x128x128_0_0_123_0_0 _ (by decide))
  have c2 := c1.step (fun j => scores_at x0 x1 hq hk _ 15872 rfl (by decide) inb_S1x1x16640x256_S1x1x512x256_0_0_15872_0 j c)
    (ld_vals x2 _ 124 rfl (by decide) inb_S1x1x130x128x128_S1x1x1x128x128_0_0_124_0_0 _ (by decide))
    (ld_vals x2 _ 125 rfl (by decide) inb_S1x1x130x128x128_S1x1x1x128x128_0_0_125_0_0 _ (by decide))
    (ld_vals x2 _ 126 rfl (by decide) inb_S1x1x130x128x128_S1x1x1x128x128_0_0_126_0_0 _ (by decide))
    (ld_vals x2 _ 127 rfl (by decide) inb_S1x1x130x128x128_S1x1x1x128x128_0_0_127_0_0 _ (by decide))
  have c3 := c2.last (fun j => scores_last x0 x1 hq hk inb_S1x1x16640x256_S1x1x256x256_0_0_16384_0 j c)
    (ld_vals x2 _ 128 rfl (by decide) inb_S1x1x130x128x128_S1x1x1x128x128_0_0_128_0_0 _ (by decide))
    (ld_vals x2 _ 129 rfl (by decide) inb_S1x1x130x128x128_S1x1x1x128x128_0_0_129_0_0 _ (by decide))
  exact c3.quot (by decide) d

/-- The block the body leaves is attention. -/
theorem out_at (c : Fin 1024) (d : Fin 128) :
    out x0 x1 x2 (ix3 0 c d) = attend (scoreB x0 x1 c) (valB x2 d) 16640 := by
  refine good_out hq hk c _ ?_ d
  have h := good_at hq hk (x2 := x2) c k0_t1_loop.trips le_rfl
  have e : 1024 * k0_t1_loop.trips = 15360 := by rw [trips_eq]
  exact e ▸ h

end Cert.AttnValue
-- ==== Proof.AttnRef.lean ====
/-
  The reference's attention, read at an index: the softmax of its scores times the values.
-/
module

public import proofs.«01_k».proof.Proof.Gen.ReferenceIdeal.Run
public import proofs.«01_k».proof.Proof.AttnMath
public import Idealize.ShloMosaic.Lib.Pointwise

@[expose] public section

noncomputable section

namespace Cert.AttnRefValue

open Idealize.ShloMosaic Idealize.SL Idealize.SL.Sem
open Cert.ReferenceIdeal Cert.ReferenceIdeal.Gen Cert.Softmax

/-- The scores, with the factor that turns powers of two into exponentials. -/
def scoresT (q : FVec Ideal S2x8x256x16384 .bf16) (k : FVec Ideal S2x8x16640x256 .bf16) : FVec Ideal S2x8x16384x16640 .f32 :=
  mulf (Host.dotGeneral dot_S2x16384x8x256_S2x16640x8x256_S2x8x16384x16640_3_3_1_1_02_02 none
      (extf .f32 (transpose S2x16384x8x256 [0, 3, 1, 2] q transposes_S2x8x256x16384_S2x16384x8x256_0_3_1_2) bitsLt_bf16_f32)
      (extf .f32 (transpose S2x16640x8x256 [0, 2, 1, 3] k transposes_S2x8x16640x256_S2x16640x8x256_0_2_1_3) bitsLt_bf16_f32))
    (broadcastInDim S2x8x16384x16640 ![] bcast_S_S2x8x16384x16640 (Host.log (constant S_ .f32 0x40000000#32)))

/-- The largest score of every query. -/
def topT (s : FVec Ideal S2x8x16384x16640 .f32) : FVec Ideal S2x8x16384 .f32 :=
  maximumf (broadcastInDim S2x8x16384 ![] bcast_S_S2x8x16384 (constant S_ .f32 0xFF800000#32))
    (Host.reduce FloatOps.maximumf s (constant S_ .f32 0xFF800000#32) reducesTo_S2x8x16384x16640_S2x8x16384_d3 h_S_)

/-- One number per query, repeated along the keys. -/
def wideT (x : FVec Ideal S2x8x16384 .f32) : FVec Ideal S2x8x16384x16640 .f32 :=
  broadcastInDim S2x8x16384x16640 ![0, 1, 2, 3] bcast_S2x8x16384x1_S2x8x16384x16640_0_1_2_3
    (broadcastInDim S2x8x16384x1 ![0, 1, 2] bcast_S2x8x16384_S2x8x16384x1_0_1_2 x)

/-- The exponentials of the scores, each query's against its largest. -/
def expT (s : FVec Ideal S2x8x16384x16640 .f32) : FVec Ideal S2x8x16384x16640 .f32 :=
  Host.exp (subf s (wideT (topT s)))

/-- The softmax of the scores. -/
def softT (s : FVec Ideal S2x8x16384x16640 .f32) : FVec Ideal S2x8x16384x16640 .f32 :=
  Host.divf (expT s) (wideT (Host.reduceAdd (expT s) (constant S_ .f32 0x00000000#32)
    reducesTo_S2x8x16384x16640_S2x8x16384_d3 h_S_))

/-- The values in the proportion of the weights, the heads side by side. -/
def mixT (v : FVec Ideal S2x8x130x128x128 .bf16) (p : FVec Ideal S2x8x16384x16640 .f32) : FVec Ideal S2x16384x1024 .bf16 :=
  truncf .bf16 (shapeCast _ (transpose S2x16384x8x128 [0, 3, 1, 2]
    (Host.dotGeneral dot_S2x16640x8x128_S2x8x16384x16640_S2x8x128x16384_1_3_3_2_02_01 none
      (extf .f32 (shapeCast _ (transpose S2x130x128x8x128 [0, 2, 4, 1, 3] v transposes_S2x8x130x128x128_S2x130x128x8x128_0_2_4_1_3)
        shapeCasts_S2x130x128x8x128_S2x16640x8x128) bitsLt_bf16_f32) p)
    transposes_S2x8x128x16384_S2x16384x8x128_0_3_1_2) shapeCasts_S2x16384x8x128_S2x16384x1024) bitsLt_bf16_f32

/-- The reference's result, from its arguments. -/
def refOut (q : FVec Ideal S2x8x256x16384 .bf16) (k : FVec Ideal S2x8x16640x256 .bf16)
    (v : FVec Ideal S2x8x130x128x128 .bf16) : FVec Ideal S2x16384x1024 .bf16 :=
  mixT v (softT (scoresT q k))

variable (q : FVec Ideal S2x8x256x16384 .bf16) (k : FVec Ideal S2x8x16640x256 .bf16) (v : FVec Ideal S2x8x130x128x128 .bf16)

theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    norm_num
  rw [h]
  show (if (2 : ℝ) ≤ 0 then (⊥ : EReal) else (Real.log 2 : EReal)) = _
  rw [if_neg (by norm_num)]

theorem scoresT_at (b : Fin 2) (h : Fin 8) (l : Fin 16384) (j : Fin 16640) :
    scoresT q k (ix4 b h l j)
      = (∑ x, (q (ix4 b h x l) : EReal) * k (ix4 b h j x)) * ((Real.log 2 : ℝ) : EReal) := by
  rw [← log_two]
  pointwise [scoresT]

/-- The largest along the last axis, at any sizes. -/
theorem max_at {n0 n1 n2 n3 : ℕ} (s : FVec Ideal (⟨4, ![n0, n1, n2, n3]⟩ : Shape) .f32)
    (hr : (⟨4, ![n0, n1, n2, n3]⟩ : Shape).ReducesTo [3] ⟨3, ![n0, n1, n2]⟩) (hu : 0 < S_.numel)
    (b : Fin n0) (h : Fin n1) (l : Fin n2) :
    Host.reduce FloatOps.maximumf s (constant S_ .f32 0xFF800000#32) hr hu (ix3 b h l)
      = Finset.univ.fold max (⊥ : EReal) fun x : Fin n3 => (s (ix4 b h l x) : EReal) := by
  have hb : Ideal.ofBits FTy.f32 4286578688#32 = (⊥ : EReal) := by
    simp [Ideal.ofBits, Ideal.ieee]
  rw [← hb]
  pointwise

theorem atop (X : FVec Ideal S2x8x16384 .f32) (b : Fin 2) (h : Fin 8) (l : Fin 16384) :
    maximumf (broadcastInDim S2x8x16384 ![] bcast_S_S2x8x16384 (constant S_ .f32 0xFF800000#32)) X (ix3 b h l)
      = (X (ix3 b h l) : EReal) := by
  have hb : Ideal.ofBits FTy.f32 4286578688#32 = (⊥ : EReal) := by
    simp [Ideal.ofBits, Ideal.ieee]
  pointwise
  rw [hb]
  exact max_eq_right bot_le

theorem topT_at (s : FVec Ideal S2x8x16384x16640 .f32) (b : Fin 2) (h : Fin 8) (l : Fin 16384) :
    topT s (ix3 b h l) = Finset.univ.fold max (⊥ : EReal) fun x : Fin 16640 => (s (ix4 b h l x) : EReal) := by
  unfold topT
  rw [atop, max_at]

theorem wideT_at (s : FVec Ideal S2x8x16384 .f32) (b : Fin 2) (h : Fin 8) (l : Fin 16384) (j : Fin 16640) :
    wideT s (ix4 b h l j) = s (ix3 b h l) := by
  pointwise [wideT]

theorem expT_at (s : FVec Ideal S2x8x16384x16640 .f32) (b : Fin 2) (h : Fin 8) (l : Fin 16384) (j : Fin 16640) :
    expT s (ix4 b h l j) = Ideal.exp ((s (ix4 b h l j) : EReal) - topT s (ix3 b h l)) := by
  pointwise [expT, wideT_at]

theorem softT_at (s : FVec Ideal S2x8x16384x16640 .f32) (b : Fin 2) (h : Fin 8) (l : Fin 16384) (j : Fin 16640) :
    softT s (ix4 b h l j) = Ideal.div (expT s (ix4 b h l j)) (∑ x, (expT s (ix4 b h l x) : EReal)) := by
  pointwise [softT, wideT_at]

theorem mixT_at (p : FVec Ideal S2x8x16384x16640 .f32) (b : Fin 2) (l : Fin 16384) (e : Fin 1024) :
    mixT v p (ix3 b l e)
      = ∑ x : Fin 16640, (v (ix5 b ⟨e.val / 128, by omega⟩ ⟨x.val / 128, by omega⟩ ⟨e.val % 128, by omega⟩ ⟨x.val % 128, by omega⟩) : EReal)
          * p (ix4 b ⟨e.val / 128, by omega⟩ l x) := by
  pointwise [mixT]

/-- The score of a query against key `j`, in powers of two. -/
def score (b : Fin 2) (h : Fin 8) (l : Fin 16384) (j : ℕ) : ℝ :=
  if hj : j < 16640 then (∑ x, (q (ix4 b h x l) : EReal) * k (ix4 b h ⟨j, hj⟩ x)).toReal else 0

/-- Lane `d` of key `j`'s values. -/
def val (b : Fin 2) (h : Fin 8) (d : Fin 128) (j : ℕ) : EReal :=
  if hj : j < 16640 then v (ix5 b h ⟨j / 128, by omega⟩ d ⟨j % 128, by omega⟩) else 0

/-- On finite queries and keys the reference is attention. -/
theorem refOut_at (hq : ∀ i, (q i : EReal) ≠ ⊤ ∧ (q i : EReal) ≠ ⊥) (hk : ∀ i, (k i : EReal) ≠ ⊤ ∧ (k i : EReal) ≠ ⊥)
    (b : Fin 2) (l : Fin 16384) (e : Fin 1024) :
    refOut q k v (ix3 b l e)
      = attend (score q k b ⟨e.val / 128, by omega⟩ l) (val v b ⟨e.val / 128, by omega⟩ ⟨e.val % 128, by omega⟩) 16640 := by
  have hs : ∀ (h : Fin 8) (j : Fin 16640), scoresT q k (ix4 b h l j)
      = (score q k b h l j.val : EReal) * ((Real.log 2 : ℝ) : EReal) := fun h j => by
    rw [scoresT_at]
    unfold score
    rw [dif_pos j.isLt, dot_real _ _ _ (fun x => hq _) (fun x => hk _)]
  unfold refOut attend
  rw [mixT_at, Finset.sum_range]
  refine Finset.sum_congr rfl fun x _ => ?_
  refine congrArg₂ (fun a b : EReal => a * b) ?_ ?_
  · unfold val
    rw [dif_pos x.isLt]
  · rw [softT_at]
    simp only [expT_at, hs]
    refine ref_soft _ (by decide) x ?_
    rw [topT_at]
    simp only [hs]

end Cert.AttnRefValue
-- ==== Proof.AttnKernel.lean ====
/-
  The attention call's result array, read as a value over the extended reals.
-/
module

public import proofs.«01_k».proof.Proof.AttnIdealFrame
public import proofs.«01_k».proof.Proof.AttnLoop
public import proofs.«01_k».proof.Proof.AttnRef
public import Idealize.ShloMosaic.Lib.Pipeline.ValueKit

@[expose] public section

noncomputable section

namespace Cert.AttnValue

open Idealize.ShloMosaic Idealize.SL Idealize.SL.Sem
open Cert.KernelIdeal Cert.KernelIdeal.Gen Cert.KernelIdeal.Flash Cert.Softmax

variable (m : (ℓ : Loc nD τ sig) → Buf (Elt Ideal) ℓ)

/-- The block index of every window at every point of the grid. -/
theorem idx_all : ∀ t : Fin cfg0.N, win0_0.index t = ![t.val / 128, t.val / 16 % 8, 0, t.val % 16]
    ∧ win0_1.index t = ![t.val / 128, t.val / 16 % 8, 0, 0] ∧ win0_2.index t = ![t.val / 128, t.val / 16 % 8, 0, 0, 0]
    ∧ win0_3.index t = ![t.val / 128, t.val % 16, t.val / 16 % 8] :=
  (by decide +kernel : ∀ t : Fin grid0.N, _)

theorem lt_N (t : Fin cfg0.N) : t.val < 256 := t.isLt

/-- The batch entry of a point. -/
def bat (t : ℕ) : Fin 2 := ⟨t / 128 % 2, by omega⟩
/-- The head of a point. -/
def head (t : ℕ) : Fin 8 := ⟨t / 16 % 8, by omega⟩
/-- The query in column `c` of a point's block. -/
def qry (t : ℕ) (c : Fin 1024) : Fin 16384 := ⟨t % 16 * 1024 + c.val, by omega⟩

/-- The arguments. -/
def aQ (c : Dev nD) : Vec Ideal S2x8x256x16384 .bf16 := m (c.tc.loc main_arg0)
def aK (c : Dev nD) : Vec Ideal S2x8x16640x256 .bf16 := m (c.tc.loc main_arg1)
def aV (c : Dev nD) : Vec Ideal S2x8x130x128x128 .bf16 := m (c.tc.loc main_arg2)

theorem blk0 (c : Dev nD) (t : Fin cfg0.N) (x : Fin 256) (r : Fin 1024) :
    iblk m c 0 t (ix4 0 0 x r) = aQ m c (ix4 (bat t.val) (head t.val) x (qry t.val r)) := by
  have := lt_N t
  unfold aQ bat head qry
  blk_ext! [iblk, V_main_arg0, (idx_all t).1]

theorem blk1 (c : Dev nD) (t : Fin cfg0.N) (j : Fin 16640) (x : Fin 256) :
    iblk m c 1 t (ix4 0 0 j x) = aK m c (ix4 (bat t.val) (head t.val) j x) := by
  have := lt_N t
  unfold aK bat head
  blk_ext! [iblk, V_main_arg1, (idx_all t).2.1]

theorem blk2 (c : Dev nD) (t : Fin cfg0.N) (q : Fin 130) (d x : Fin 128) :
    iblk m c 2 t (ix5 0 0 q d x) = aV m c (ix5 (bat t.val) (head t.val) q d x) := by
  have := lt_N t
  unfold aV bat head
  blk_ext! [iblk, V_main_arg2, (idx_all t).2.2.1]

/-- The result at a batch entry, query, head and lane: attention of the argument's own columns. -/
def cell (c : Dev nD) (b : Fin 2) (l : Fin 16384) (h : Fin 8) (d : Fin 128) : EReal :=
  attend (AttnRefValue.score (aQ m c) (aK m c) b h l) (AttnRefValue.val (aV m c) b h d) 16640

/-- The head of a column of the result. -/
def colHead (e : Fin 1024) : Fin 8 := ⟨e.val / 128, by omega⟩
/-- The lane of a column of the result. -/
def colLane (e : Fin 1024) : Fin 128 := ⟨e.val % 128, by omega⟩

/-- The result: attention, the heads side by side. -/
def result (c : Dev nD) : Vec Ideal S2x16384x1024 .bf16 := fun i =>
  cell m c (i 0) (i 1) (colHead (i 2)) (colLane (i 2))

theorem score_eq (c : Dev nD) (t : Fin cfg0.N) (r : Fin 1024) :
    scoreB (iblk m c 0 t) (iblk m c 1 t) r = AttnRefValue.score (aQ m c) (aK m c) (bat t.val) (head t.val) (qry t.val r) := by
  funext j
  unfold scoreB AttnRefValue.score
  by_cases hj : j < 16640
  · rw [dif_pos hj, dif_pos hj]
    refine congrArg EReal.toReal (Finset.sum_congr rfl fun x _ => ?_)
    rw [mul_comm]
    exact congrArg₂ (fun a b : EReal => a * b) (blk0 m c t x r) (blk1 m c t ⟨j, hj⟩ x)
  · rw [dif_neg hj, dif_neg hj]

theorem val_eq (c : Dev nD) (t : Fin cfg0.N) (d : Fin 128) :
    valB (iblk m c 2 t) d = AttnRefValue.val (aV m c) (bat t.val) (head t.val) d := by
  funext j
  unfold valB AttnRefValue.val
  by_cases hj : j < 16640
  · rw [dif_pos hj, dif_pos hj]
    exact blk2 m c t _ d _
  · rw [dif_neg hj, dif_neg hj]

/-- An index of a block, by its coordinates: a block of finite queries is finite. -/
theorem fin0 (c : Dev nD) (hq : ∀ i, (aQ m c i : EReal) ≠ ⊤ ∧ (aQ m c i : EReal) ≠ ⊥) (t : Fin cfg0.N) (i : S1x1x256x1024.Idx) :
    (show EReal from iblk m c 0 t i) ≠ ⊤ ∧ (show EReal from iblk m c 0 t i) ≠ ⊥ := by
  have hi : i = ix4 (0 : Fin 1) (0 : Fin 1) (i 2 : Fin 256) (i 3 : Fin 1024) := by
    funext a; match a with
    | ⟨0, _⟩ => exact Subsingleton.elim (α := Fin 1) _ _
    | ⟨1, _⟩ => exact Subsingleton.elim (α := Fin 1) _ _
    | ⟨2, _⟩ => rfl
    | ⟨3, _⟩ => rfl
  have e := blk0 m c t (i 2) (i 3)
  rw [hi]
  exact ⟨fun h => (hq _).1 (e.symm.trans h), fun h => (hq _).2 (e.symm.trans h)⟩

theorem fin1 (c : Dev nD) (hk : ∀ i, (aK m c i : EReal) ≠ ⊤ ∧ (aK m c i : EReal) ≠ ⊥) (t : Fin cfg0.N) (i : S1x1x16640x256.Idx) :
    (show EReal from iblk m c 1 t i) ≠ ⊤ ∧ (show EReal from iblk m c 1 t i) ≠ ⊥ := by
  have hi : i = ix4 (0 : Fin 1) (0 : Fin 1) (i 2 : Fin 16640) (i 3 : Fin 256) := by
    funext a; match a with
    | ⟨0, _⟩ => exact Subsingleton.elim (α := Fin 1) _ _
    | ⟨1, _⟩ => exact Subsingleton.elim (α := Fin 1) _ _
    | ⟨2, _⟩ => rfl
    | ⟨3, _⟩ => rfl
  have e := blk1 m c t (i 2) (i 3)
  rw [hi]
  exact ⟨fun h => (hk _).1 (e.symm.trans h), fun h => (hk _).2 (e.symm.trans h)⟩

/-- A block of the result, on finite queries and keys. -/
theorem out_blk (c : Dev nD) (hq : ∀ i, (aQ m c i : EReal) ≠ ⊤ ∧ (aQ m c i : EReal) ≠ ⊥)
    (hk : ∀ i, (aK m c i : EReal) ≠ ⊤ ∧ (aK m c i : EReal) ≠ ⊥) (t : Fin cfg0.N) (r : Fin 1024) (d : Fin 128) :
    outAt m c t (ix3 0 r d) = cell m c (bat t.val) (qry t.val r) (head t.val) d := by
  refine (out_at (x2 := iblk m c 2 t) (fin0 m c hq t) (fin1 m c hk t) r d).trans ?_
  exact congrArg₂ (fun σ v => attend σ v 16640) (score_eq m c t r) (val_eq m c t d)

/-- The array the call leaves, on finite queries and keys. -/
theorem final (c : Dev nD) (hq : ∀ i, (aQ m c i : EReal) ≠ ⊤ ∧ (aQ m c i : EReal) ≠ ⊥)
    (hk : ∀ i, (aK m c i : EReal) ≠ ⊤ ∧ (aK m c i : EReal) ≠ ⊥) : (dats m 0 c).arrAt 3 cfg0.N = result m c := by
  refine (dats m 0 c).arrAt_eq_of_covers 3 _ (by decide +kernel) fun t hf y => ?_
  have hN := lt_N t
  blk_simp
  rw [dats_after_3]
  have hy : y = ix3 (0 : Fin 1) (y 1 : Fin 1024) (y 2 : Fin 128) := by
    funext a; match a with
    | ⟨0, _⟩ => exact Subsingleton.elim (α := Fin 1) _ _
    | ⟨1, _⟩ => rfl
    | ⟨2, _⟩ => rfl
  have h2 : (y 2 : Fin 128).val < 128 := (y 2 : Fin 128).isLt
  rw [hy]
  refine (out_blk m c hq hk t (y 1) (y 2)).trans ?_
  have he : (win0_3.blk t).view.emb (ix3 (0 : Fin 1) (y 1 : Fin 1024) (y 2 : Fin 128))
      = ix3 (bat t.val) (qry t.val (y 1)) ⟨t.val / 16 % 8 * 128 + (y 2 : Fin 128).val, by omega⟩ := by
    unfold bat qry
    blk_ext [(idx_all t).2.2.2]
  refine Eq.trans ?_ (congrArg (result m c) he).symm
  refine congrArg₂ (cell m c (bat t.val) (qry t.val (y 1))) (Fin.ext ?_) (Fin.ext ?_)
  · show t.val / 16 % 8 = (t.val / 16 % 8 * 128 + (y 2 : Fin 128).val) / 128
    omega
  · show (y 2 : Fin 128).val = (t.val / 16 % 8 * 128 + (y 2 : Fin 128).val) % 128
    omega

end Cert.AttnValue
-- ==== Proof.AttnClaim.lean ====
/-
  The streamed attention call equals attention as the reference states it, over the extended reals, for finite queries
  and keys; and the frames of the programs.
-/
module

public import proofs.«01_k».proof.Defs
public import proofs.«01_k».proof.Proof.AttnFrame
public import proofs.«01_k».proof.Proof.AttnKernel
public import proofs.«01_k».proof.Proof.Gen.Kernel
public import proofs.«01_k».proof.Proof.Gen.KernelIdeal
public import proofs.«01_k».proof.Proof.Gen.ReferenceIdeal
public import proofs.«01_k».proof.Proof.Gen.Pre_finite_scores
public import Idealize.ShloMosaic.Lib.ReduceAll
public import Idealize.ShloMosaic.Lib.Quiescent

@[expose] public section

noncomputable section

namespace Cert.AttnClaim

open Idealize.ShloMosaic Idealize.SL Idealize.SL.Sem Cert.AttnValue

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_scores.Facts := Cert.Pre_finite_scores.Gen.facts

theorem kernel_frame : Cert.quiescent_Kernel (hKernel := Cert.Kernel.Gen.facts) :=
  fun m ρ _ => Cert.Kernel.Flash.quiescent m ρ

theorem kernelIdeal_frame : Cert.quiescent_KernelIdeal (hKernelIdeal := Cert.KernelIdeal.Gen.facts) :=
  fun m ρ _ => Cert.KernelIdeal.Flash.quiescent m ρ

theorem kernelIdeal_frame_pre : Cert.quiescent_KernelIdeal_pre_finite_scores
    (hKernelIdeal := Cert.KernelIdeal.Gen.facts) (hPre_finite_scores := Cert.Pre_finite_scores.Gen.facts) :=
  fun m ρ _ => Cert.KernelIdeal.Flash.quiescent m ρ

theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

theorem reference_frame_pre : Cert.quiescent_ReferenceIdeal_pre_finite_scores
    (hReferenceIdeal := Cert.ReferenceIdeal.Gen.facts) (hPre_finite_scores := Cert.Pre_finite_scores.Gen.facts) :=
  fun m ρ _ => reference_frame m ρ trivial

/-! ## The precondition, read -/

/-- A number whose absolute value is below the top is neither infinity. -/
theorem finite_of_abs_lt {x : EReal} (h : max x (-x) < ⊤) : x ≠ ⊤ ∧ x ≠ ⊥ :=
  ⟨fun e => by rw [e] at h; simp at h, fun e => by rw [e] at h; simp at h⟩

/-- Where the conjunction over an array of "the absolute value is below the top" holds, every entry is finite. -/
theorem finite_of_all {s u : Shape} (x : FVec Ideal s .bf16) (hw : FTy.bits .bf16 < FTy.bits .f32)
    (hb : (⟨0, ![]⟩ : Shape).BroadcastsInDim s (![] : Fin 0 → Fin s.rank)) {axes : List (Fin s.rank)} (hr : s.ReducesTo axes ⟨0, ![]⟩)
    (init : u.Idx → BitVec 1) (hu : 0 < u.numel) (j : (⟨0, ![]⟩ : Shape).Idx)
    (e : Host.reduce IntOp.andi (cmpf .olt (Host.absf (extf .f32 x hw))
      (broadcastInDim s ![] hb (constant (F := Ideal) ⟨0, ![]⟩ .f32 0x7F800000#32))) init hr hu j = 1#1) (i : s.Idx) :
    (x i : EReal) ≠ ⊤ ∧ (x i : EReal) ≠ ⊥ := by
  haveI : Subsingleton (⟨0, ![]⟩ : Shape).Idx := ⟨fun a b => funext fun k => k.elim0⟩
  have h : BitVec.ofBool (decide (max (x i : EReal) (-(x i : EReal)) < Ideal.ofBits .f32 0x7F800000#32)) = 1#1 :=
    Host.reduce_andi_all _ init hr hu j e i
  have ht : Ideal.ofBits FTy.f32 0x7F800000#32 = (⊤ : EReal) := by
    simp [Ideal.ofBits, Ideal.ieee]
  rw [ht] at h
  refine finite_of_abs_lt (of_decide_eq_true ?_)
  cases hd : decide (max (x i : EReal) (-(x i : EReal)) < ⊤)
  · rw [hd] at h; exact absurd h (by decide)
  · rfl

/-- Two bits whose conjunction is 1 are both 1. -/
theorem both_of_andi : ∀ a b : BitVec 1, IntOp.andi a b = 1#1 → a = 1#1 ∧ b = 1#1 := by decide

/-- The precondition gives finite queries and keys. -/
theorem finite_of_pre (m : (ℓ : Loc Cert.KernelIdeal.nD Cert.KernelIdeal.τ Cert.KernelIdeal.sig) → Buf (Elt Ideal) ℓ)
    (hp : Cert.Pre_KernelIdeal_finite_scores m) (c : Dev Cert.KernelIdeal.nD) :
    (∀ i, (aQ m c i : EReal) ≠ ⊤ ∧ (aQ m c i : EReal) ≠ ⊥) ∧ ∀ i, (aK m c i : EReal) ≠ ⊤ ∧ (aK m c i : EReal) ≠ ⊥ := by
  have h := both_of_andi _ _ (congrFun (hp c) (fun k => k.elim0))
  have hs := h.1
  have hk := h.2
  dsimp only at hs hk
  exact ⟨fun i => finite_of_all (aQ m c) Cert.Pre_finite_scores.Gen.bitsLt_bf16_f32 Cert.Pre_finite_scores.Gen.bcast_S_S2x8x256x16384
      Cert.Pre_finite_scores.Gen.reducesTo_S2x8x256x16384_S_d0_1_2_3 _ Cert.Pre_finite_scores.Gen.h_S_ (fun k => k.elim0) hs i,
    fun i => finite_of_all (aK m c) Cert.Pre_finite_scores.Gen.bitsLt_bf16_f32 Cert.Pre_finite_scores.Gen.bcast_S_S2x8x16640x256
      Cert.Pre_finite_scores.Gen.reducesTo_S2x8x16640x256_S_d0_1_2_3 _ Cert.Pre_finite_scores.Gen.h_S_ (fun k => k.elim0) hk i⟩

/-! ## The two values -/

/-- The reference's array is the kernel's, from the same finite arguments. -/
theorem ref_eq (m : (ℓ : Loc Cert.KernelIdeal.nD Cert.KernelIdeal.τ Cert.KernelIdeal.sig) → Buf (Elt Ideal) ℓ)
    (c : Dev Cert.KernelIdeal.nD) (hq : ∀ i, (aQ m c i : EReal) ≠ ⊤ ∧ (aQ m c i : EReal) ≠ ⊥)
    (hk : ∀ i, (aK m c i : EReal) ≠ ⊤ ∧ (aK m c i : EReal) ≠ ⊥) :
    Cert.AttnRefValue.refOut (aQ m c) (aK m c) (aV m c) = result m c := by
  funext i
  have hi : i = ix3 (i 0 : Fin 2) (i 1 : Fin 16384) (i 2 : Fin 1024) := by
    funext a; match a with
    | ⟨0, _⟩ => rfl
    | ⟨1, _⟩ => rfl
    | ⟨2, _⟩ => rfl
  rw [hi]
  exact Cert.AttnRefValue.refOut_at (aQ m c) (aK m c) (aV m c) hq hk (i 0) (i 1) (i 2)

theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hq : ∀ i, (aQ m c i : EReal) ≠ ⊤ ∧ (aQ m c i : EReal) ≠ ⊥)
    (hk : ∀ i, (aK m c i : EReal) ≠ ⊤ ∧ (aK m c i : EReal) ≠ ⊥)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2)) :
    Cert.AttnRefValue.refOut (m' (c.tc.loc Cert.ReferenceIdeal.main_arg0)) (m' (c.tc.loc Cert.ReferenceIdeal.main_arg1))
      (m' (c.tc.loc Cert.ReferenceIdeal.main_arg2)) = result m c := by
  rw [h0, h1, h2]
  exact ref_eq m c hq hk

theorem algebraic : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  intro m ρ m' ρ' hp hagree
  refine ⟨fun c => result m c, ?_, ?_⟩
  · exact (θ_run _ _ _).mono (fun _ h c => ⟨(h c).1.trans (final m c (finite_of_pre m hp c).1 (finite_of_pre m hp c).2), (h c).2⟩)
      (Cert.KernelIdeal.Flash.run_blocks m ρ)
  · refine (θ_run _ _ _).mono (fun _ h c => ⟨(h c).1.trans ?_, (h c).2⟩) (Cert.ReferenceIdeal.Value.run (F := Ideal) m' ρ')
    obtain ⟨h0, h1, h2⟩ := hagree c
    exact results_eq m m' c (finite_of_pre m hp c).1 (finite_of_pre m hp c).2 h0 h1 h2

end Cert.AttnClaim
-- ==== Proof.MlpSpec.lean ====
/-
  The MLP sub-layer as a function of extended reals: what both the fused kernel and the plain reference compute.
-/
module

public import Idealize.ShloMosaic.Lib.Pointwise
public import Idealize.ShloMosaic.Lib.Pipeline.Value

@[expose] public section

noncomputable section

namespace Cert.MlpValue

open Idealize.ShloMosaic

/-- The factor of the root-mean-square norm of a row. -/
def nrm (v : Fin 2048 → EReal) : EReal :=
  Ideal.rsqrt (Ideal.div (∑ d, v d * v d) (Ideal.ofBits .f32 1157627904#32) + Ideal.ofBits .f32 897988541#32)

/-- The modulated row the first product reads. -/
def hid (x g m3 m4 : Fin 2048 → EReal) (d : Fin 2048) : EReal :=
  x d * nrm x * (g d * (1 + m4 d)) + m3 d

/-- The squared positive part of one hidden unit. -/
def act (h : Fin 2048 → EReal) (w : Fin 2048 → EReal) : EReal :=
  max (∑ d, h d * w d) 0 * max (∑ d, h d * w d) 0

/-- The row added to the residual, before its norm: the sum over all hidden units. -/
def prod (h : Fin 2048 → EReal) (w1 : Fin 2048 → Fin 8192 → EReal) (w2 : Fin 8192 → Fin 2048 → EReal) (d : Fin 2048) : EReal :=
  ∑ f, act h (fun e => w1 e f) * w2 f d

/-- The residual row plus the normed, gated row. -/
def resid (x m5 g y : Fin 2048 → EReal) (d : Fin 2048) : EReal :=
  x d + y d * nrm y * (m5 d * g d)

/-- One row of the sub-layer. -/
def row (x m3 m4 m5 g1 g2 : Fin 2048 → EReal) (w1 : Fin 2048 → Fin 8192 → EReal) (w2 : Fin 8192 → Fin 2048 → EReal)
    (d : Fin 2048) : EReal :=
  resid x m5 g2 (prod (hid x g1 m3 m4) w1 w2) d

/-- The share of the tile `s` of 1024 hidden units in the product. -/
def tile (h : Fin 2048 → EReal) (w1 : Fin 2048 → Fin 8192 → EReal) (w2 : Fin 8192 → Fin 2048 → EReal) (d : Fin 2048)
    (s : ℕ) : EReal :=
  if hs : s < 8 then
    ∑ f : Fin 1024, act h (fun e => w1 e ⟨s * 1024 + f.val, by omega⟩) * w2 ⟨s * 1024 + f.val, by omega⟩ d
  else 0

theorem sum_tile (h : Fin 2048 → EReal) (w1 : Fin 2048 → Fin 8192 → EReal) (w2 : Fin 8192 → Fin 2048 → EReal) (d : Fin 2048) :
    ∑ s ∈ Finset.range 8, tile h w1 w2 d s = prod h w1 w2 d := by
  rw [Finset.sum_range]
  unfold prod
  rw [Fin.sum_univ_tiles 8 1024 rfl]
  refine Finset.sum_congr rfl fun s _ => ?_
  unfold tile
  rw [dif_pos s.isLt]

end Cert.MlpValue
-- ==== Proof.MlpKernel.lean ====
/-
  The fused MLP kernel's result, read as a value over the extended reals.
-/
module

public import proofs.«01_k».proof.Proof.Gen.Kernel2Ideal.Value
public import proofs.«01_k».proof.Proof.MlpSpec
public import Idealize.ShloMosaic.Lib.Pipeline.ValueKit
public import Idealize.ShloMosaic.Lib.Pipeline.Value
public import Idealize.ShloMosaic.Lib.Pointwise

@[expose] public section

noncomputable section

namespace Cert.MlpValue

open Idealize.ShloMosaic Idealize.SL Idealize.SL.Sem
open Cert.Kernel2Ideal Cert.Kernel2Ideal.Gen

variable (m : (ℓ : Loc nD τ sig) → Buf (Elt Ideal) ℓ)

/-- The block index of every window at every point of the grid. -/
theorem idx_all : ∀ t : Fin cfg0.N, win0_0.index t = ![t.val / 256, t.val / 8 % 32, 0] ∧ win0_1.index t = ![t.val / 256, 0, 0]
    ∧ win0_2.index t = ![0, 0] ∧ win0_3.index t = ![0, 0] ∧ win0_4.index t = ![1, 0, t.val % 8]
    ∧ win0_5.index t = ![1, t.val % 8, 0] ∧ win0_6.index t = ![t.val / 256, t.val / 8 % 32, 0] :=
  (by decide +kernel : ∀ t : Fin grid0.N, _)

theorem lt_N (t : Fin cfg0.N) : t.val < 512 := t.isLt

/-- The batch entry of a point. -/
def bat (t : ℕ) : Fin 2 := ⟨t / 256 % 2, by omega⟩
/-- The array row of row `r` of a point's block. -/
def rowOf (t : ℕ) (r : Fin 512) : Fin 16384 := ⟨t / 8 % 32 * 512 + r.val, by omega⟩

/-- Rows of the arguments, as functions of the lane. -/
def aX (c : Dev nD) (b : Fin 2) (l : Fin 16384) (d : Fin 2048) : EReal := m (c.tc.loc main_arg0) (ix3 b l d)
def aMod (c : Dev nD) (b : Fin 2) (k : Fin 6) (d : Fin 2048) : EReal := m (c.tc.loc main_arg1) (ix3 b k d)
def aG1 (c : Dev nD) (d : Fin 2048) : EReal := m (c.tc.loc main_arg2) (ix1 d)
def aG2 (c : Dev nD) (d : Fin 2048) : EReal := m (c.tc.loc main_arg3) (ix1 d)
def aW1 (c : Dev nD) (e : Fin 2048) (f : Fin 8192) : EReal := m (c.tc.loc main_arg4) (ix3 1 e f)
def aW2 (c : Dev nD) (f : Fin 8192) (d : Fin 2048) : EReal := m (c.tc.loc main_arg5) (ix3 1 f d)

theorem blk0 (c : Dev nD) (t : Fin cfg0.N) (r : Fin 512) (d : Fin 2048) :
    iblk m c 0 t (ix3 0 r d) = aX m c (bat t.val) (rowOf t.val r) d := by
  have := lt_N t
  unfold aX bat rowOf
  blk_ext! [iblk, V_main_arg0, (idx_all t).1]

theorem blk1 (c : Dev nD) (t : Fin cfg0.N) (k : Fin 6) (d : Fin 2048) :
    iblk m c 1 t (ix3 0 k d) = aMod m c (bat t.val) k d := by
  have := lt_N t
  unfold aMod bat
  blk_ext! [iblk, V_main_arg1, (idx_all t).2.1]

theorem blk2 (c : Dev nD) (t : Fin cfg0.N) (d : Fin 2048) :
    iblk m c 2 t (ix2 0 d) = aG1 m c d := by
  have := lt_N t
  unfold aG1
  blk_simp [iblk, (idx_all t).2.2.1]
  entry_read
  pointwise
  blk_ext [(idx_all t).2.2.1]

theorem blk3 (c : Dev nD) (t : Fin cfg0.N) (d : Fin 2048) :
    iblk m c 3 t (ix2 0 d) = aG2 m c d := by
  have := lt_N t
  unfold aG2
  blk_simp [iblk, (idx_all t).2.2.2.1]
  entry_read
  pointwise
  blk_ext [(idx_all t).2.2.2.1]

theorem blk4 (c : Dev nD) (t : Fin cfg0.N) (e : Fin 2048) (f : Fin 1024) :
    iblk m c 4 t (ix3 0 e f) = aW1 m c e ⟨t.val % 8 * 1024 + f.val, by omega⟩ := by
  have := lt_N t
  unfold aW1
  blk_simp [iblk, (idx_all t).2.2.2.2.1]
  entry_read
  pointwise
  blk_ext [(idx_all t).2.2.2.2.1]

theorem blk5 (c : Dev nD) (t : Fin cfg0.N) (f : Fin 1024) (d : Fin 2048) :
    iblk m c 5 t (ix3 0 f d) = aW2 m c ⟨t.val % 8 * 1024 + f.val, by omega⟩ d := by
  have := lt_N t
  unfold aW2
  blk_simp [iblk, (idx_all t).2.2.2.2.2.1]
  entry_read
  pointwise
  blk_ext [(idx_all t).2.2.2.2.2.1]

/-- The modulated row of the run `q` of eight points. -/
def hRow (c : Dev nD) (t : ℕ) (r : Fin 512) : Fin 2048 → EReal :=
  hid (aX m c (bat t) (rowOf t r)) (aG1 m c) (aMod m c (bat t) 3) (aMod m c (bat t) 4)

theorem pay4_at (c : Dev nD) (t : Fin cfg0.N) (r : Fin 512) (d : Fin 2048) :
    k0_pay4 (iblk m c 2 t) (View.ld (iblk m c 1 t) (Rect.unit ![0, 4, 0] ![1, 1, 2048] inb_S1x6x2048_S1x1x2048_0_4_0))
      (iblk m c 0 t) (View.ld (iblk m c 1 t) (Rect.unit ![0, 3, 0] ![1, 1, 2048] inb_S1x6x2048_S1x1x2048_0_3_0)) (ix2 r d)
      = hRow m c t.val r d := by
  pointwise [k0_pay4]
  unfold hRow hid nrm
  simp only [← blk0 m c t, ← blk1 m c t, ← blk2 m c t]

theorem pay6_at (c : Dev nD) (t : Fin cfg0.N) (r : Fin 512) (f : Fin 1024) :
    k0_pay6 (iblk m c 2 t) (View.ld (iblk m c 1 t) (Rect.unit ![0, 4, 0] ![1, 1, 2048] inb_S1x6x2048_S1x1x2048_0_4_0))
      (iblk m c 0 t) (View.ld (iblk m c 1 t) (Rect.unit ![0, 3, 0] ![1, 1, 2048] inb_S1x6x2048_S1x1x2048_0_3_0))
      (iblk m c 4 t) (ix2 r f)
      = act (hRow m c t.val r) (fun e => aW1 m c e ⟨t.val % 8 * 1024 + f.val, by omega⟩) := by
  pointwise [k0_pay6]
  unfold act
  simp only [pay4_at, blk4]

theorem pay1_at (v : FVec Ideal S512x1024 .bf16) (w : Vec Ideal S1x1024x2048 .bf16) (r : Fin 512) (d : Fin 2048) :
    k0_pay1 v w (ix2 r d) = (∑ f : Fin 1024, (v (ix2 r f) : EReal) * w (ix3 0 f d) : EReal) := by
  pointwise [k0_pay1]

/-- The share of a point's tile of hidden units, from a hidden row. -/
theorem share_at (c : Dev nD) (t : Fin cfg0.N) (h : Fin 2048 → EReal) (d : Fin 2048) :
    (∑ f : Fin 1024, max (∑ e, h e * (iblk m c 4 t (ix3 0 e f) : EReal)) 0 * max (∑ e, h e * (iblk m c 4 t (ix3 0 e f) : EReal)) 0
      * (iblk m c 5 t (ix3 0 f d) : EReal) : EReal) = tile h (aW1 m c) (aW2 m c) d (t.val % 8) := by
  unfold tile act
  rw [dif_pos (Nat.mod_lt _ (by decide))]
  simp only [blk4, blk5]

theorem pay2_at (c : Dev nD) (t : Fin cfg0.N) (a : Vec Ideal S512x2048 .f32) (h : Vec Ideal S512x2048 .bf16)
    (r : Fin 512) (d : Fin 2048) :
    k0_pay2 a h (iblk m c 4 t) (iblk m c 5 t) (ix2 r d)
      = ((a (ix2 r d) : EReal) + tile (fun e => h (ix2 r e)) (aW1 m c) (aW2 m c) d (t.val % 8) : EReal) := by
  rw [← share_at m c t]
  pointwise [k0_pay2]

theorem pay7_at (c : Dev nD) (t : Fin cfg0.N) (a : Vec Ideal S512x2048 .f32) (h : Vec Ideal S512x2048 .bf16)
    (r : Fin 512) (d : Fin 2048) :
    k0_pay7 a h (iblk m c 4 t) (iblk m c 5 t)
        (View.ld (iblk m c 1 t) (Rect.unit ![0, 5, 0] ![1, 1, 2048] inb_S1x6x2048_S1x1x2048_0_5_0)) (iblk m c 3 t)
        (iblk m c 0 t) (ix2 r d)
      = resid (aX m c (bat t.val) (rowOf t.val r)) (aMod m c (bat t.val) 5) (aG2 m c)
          (fun d => (a (ix2 r d) : EReal) + tile (fun e => h (ix2 r e)) (aW1 m c) (aW2 m c) d (t.val % 8)) d := by
  unfold resid nrm
  simp only [← share_at m c t, ← blk0 m c t, ← blk1 m c t, ← blk3 m c t]
  pointwise [k0_pay7]

theorem rd0 (X : Vec Ideal S512x2048 .bf16) :
    View.read (Elt Ideal) (View.whole cc0_scratch0) ((Memref.isWhole_whole cc0_scratch0).unread X) = X :=
  Memref.IsWhole.read_unread _ _

theorem rd1 (X : Vec Ideal S512x2048 .f32) :
    View.read (Elt Ideal) (View.whole cc0_scratch1) ((Memref.isWhole_whole cc0_scratch1).unread X) = X :=
  Memref.IsWhole.read_unread _ _

theorem hid_first (c : Dev nD) (t : Fin cfg0.N) (h : t.val % 8 = 0) (r : Fin 512) (d : Fin 2048) :
    (outsAt0 m c t.val t.isLt).2.1 (ix2 r d) = hRow m c t.val r d := by
  rw [outsAt0_A m c t h (by omega) (by omega)]
  frame_out
  refine Eq.trans ?_ (pay4_at m c t r d)
  pointwise [k0_pay5]
  rfl

theorem acc_first (c : Dev nD) (t : Fin cfg0.N) (h : t.val % 8 = 0) (r : Fin 512) (d : Fin 2048) :
    (outsAt0 m c t.val t.isLt).2.2 (ix2 r d) = tile (hRow m c t.val r) (aW1 m c) (aW2 m c) d (t.val % 8) := by
  rw [outsAt0_A m c t h (by omega) (by omega)]
  frame_out
  rw [pay1_at]
  unfold tile
  rw [dif_pos (Nat.mod_lt _ (by decide))]
  refine Finset.sum_congr rfl fun f _ => ?_
  exact congrArg₂ (fun a b : EReal => a * b) (pay6_at m c t r f) (blk5 m c t f d)

theorem hid_next (c : Dev nD) (t : Fin cfg0.N) (h : 1 ≤ t.val % 8 ∧ t.val % 8 ≤ 6) :
    (outsAt0 m c t.val t.isLt).2.1 = (outsAt0 m c (t.val - 1) (by have := t.isLt; omega)).2.1 := by
  rw [outsAt0_B m c t (by omega) h (by omega)]
  dsimp only
  unfold sout0_B_0
  rfl

theorem acc_next (c : Dev nD) (t : Fin cfg0.N) (h : 1 ≤ t.val % 8 ∧ t.val % 8 ≤ 6) (r : Fin 512) (d : Fin 2048) :
    (outsAt0 m c t.val t.isLt).2.2 (ix2 r d)
      = ((outsAt0 m c (t.val - 1) (by have := t.isLt; omega)).2.2 (ix2 r d) : EReal)
        + tile (fun e => (outsAt0 m c (t.val - 1) (by have := t.isLt; omega)).2.1 (ix2 r e)) (aW1 m c) (aW2 m c) d (t.val % 8) := by
  rw [outsAt0_B m c t (by omega) h (by omega)]
  frame_out
  rw [rd0, rd1, pay2_at]

theorem out_last (c : Dev nD) (t : Fin cfg0.N) (h : t.val % 8 = 7) (r : Fin 512) (d : Fin 2048) :
    (outsAt0 m c t.val t.isLt).1 (ix3 0 r d)
      = resid (aX m c (bat t.val) (rowOf t.val r)) (aMod m c (bat t.val) 5) (aG2 m c)
          (fun d => ((outsAt0 m c (t.val - 1) (by have := t.isLt; omega)).2.2 (ix2 r d) : EReal)
            + tile (fun e => (outsAt0 m c (t.val - 1) (by have := t.isLt; omega)).2.1 (ix2 r e)) (aW1 m c) (aW2 m c) d (t.val % 8)) d := by
  rw [outsAt0_C m c t (by omega) (by omega) h]
  frame_out
  rw [rd0, rd1, ← pay7_at]
  pointwise [k0_pay3]
  rfl

theorem hRow_congr (c : Dev nD) (t t' : ℕ) (h : t / 8 = t' / 8) (r : Fin 512) : hRow m c t r = hRow m c t' r := by
  have h1 : bat t = bat t' := Fin.ext (by show t / 256 % 2 = t' / 256 % 2; omega)
  have h2 : rowOf t r = rowOf t' r := Fin.ext (by show t / 8 % 32 * 512 + r.val = t' / 8 % 32 * 512 + r.val; omega)
  unfold hRow
  rw [h1, h2]

/-- The two buffers kept between the points of a run: the modulated rows, and the running sum over the tiles so far. -/
theorem kept (c : Dev nD) (q : ℕ) : ∀ j : ℕ, j ≤ 6 → ∀ hn : 8 * q + j < cfg0.N, ∀ (r : Fin 512) (d : Fin 2048),
    (outsAt0 m c (8 * q + j) hn).2.1 (ix2 r d) = hRow m c (8 * q) r d
    ∧ (outsAt0 m c (8 * q + j) hn).2.2 (ix2 r d)
      = (∑ s ∈ Finset.range (j + 1), tile (hRow m c (8 * q) r) (aW1 m c) (aW2 m c) d s : EReal)
  | 0, _, hn, r, d => by
    have h := hid_first m c ⟨8 * q + 0, hn⟩ (by show (8 * q + 0) % 8 = 0; omega) r d
    have h' := acc_first m c ⟨8 * q + 0, hn⟩ (by show (8 * q + 0) % 8 = 0; omega) r d
    refine ⟨h, h'.trans ?_⟩
    rw [Finset.sum_range_one]
    show tile (hRow m c (8 * q + 0) r) _ _ d ((8 * q + 0) % 8) = _
    rw [show (8 * q + 0) % 8 = 0 by omega]
    rfl
  | j + 1, hj, hn, r, d => by
    have hn' : 8 * q + j < cfg0.N := by omega
    have ih := kept c q j (by omega) hn'
    have h := hid_next m c ⟨8 * q + (j + 1), hn⟩ (by show 1 ≤ (8 * q + (j + 1)) % 8 ∧ (8 * q + (j + 1)) % 8 ≤ 6; omega)
    have h' := acc_next m c ⟨8 * q + (j + 1), hn⟩ (by show 1 ≤ (8 * q + (j + 1)) % 8 ∧ (8 * q + (j + 1)) % 8 ≤ 6; omega) r d
    refine ⟨(congrFun h _).trans (ih r d).1, h'.trans ?_⟩
    rw [Finset.sum_range_succ _ (j + 1)]
    show ((outsAt0 m c (8 * q + j) hn').2.2 (ix2 r d) : EReal)
      + tile (fun e => (outsAt0 m c (8 * q + j) hn').2.1 (ix2 r e)) (aW1 m c) (aW2 m c) d ((8 * q + (j + 1)) % 8) = _
    rw [(ih r d).2, show (8 * q + (j + 1)) % 8 = j + 1 by omega]
    congr 2
    exact funext fun e => (ih r e).1

theorem outs_congr (c : Dev nD) (n n' : ℕ) (hn : n < cfg0.N) (hn' : n' < cfg0.N) (h : n = n') :
    outsAt0 m c n hn = outsAt0 m c n' hn' := by
  subst h
  rfl

/-- The block a run leaves is the sub-layer's rows. -/
theorem out_row (c : Dev nD) (t : Fin cfg0.N) (h : t.val % 8 = 7) (r : Fin 512) (d : Fin 2048) :
    (outsAt0 m c t.val t.isLt).1 (ix3 0 r d)
      = row (aX m c (bat t.val) (rowOf t.val r)) (aMod m c (bat t.val) 3) (aMod m c (bat t.val) 4) (aMod m c (bat t.val) 5)
          (aG1 m c) (aG2 m c) (aW1 m c) (aW2 m c) d := by
  have ht := lt_N t
  obtain ⟨q, hq⟩ : ∃ q, t.val - 1 = 8 * q + 6 := ⟨t.val / 8, by omega⟩
  have hn : 8 * q + 6 < cfg0.N := by rw [← hq]; have := t.isLt; omega
  have hk := kept m c q 6 (le_refl _) hn r
  have hR : hRow m c (8 * q) r = hRow m c t.val r := hRow_congr m c _ _ (by omega) r
  rw [out_last m c t h]
  unfold row
  refine congrArg (fun y => resid _ _ _ y d) (funext fun e => ?_)
  have e1 : (outsAt0 m c (t.val - 1) (by have := t.isLt; omega)) = outsAt0 m c (8 * q + 6) hn := outs_congr m c _ _ _ _ hq
  rw [e1, (hk e).2, h]
  have e2 : (fun e => (outsAt0 m c (8 * q + 6) hn).2.1 (ix2 r e)) = hRow m c (8 * q) r := funext fun e => (hk e).1
  rw [e2, hR]
  exact (Finset.sum_range_succ _ 7).symm.trans (sum_tile _ _ _ e)

/-- What the kernel's result array ends holding. -/
def result (c : Dev nD) : Vec Ideal S2x16384x2048 .f32 := fun i =>
  row (aX m c (i 0) (i 1)) (aMod m c (i 0) 3) (aMod m c (i 0) 4) (aMod m c (i 0) 5)
    (aG1 m c) (aG2 m c) (aW1 m c) (aW2 m c) (i 2)

theorem final (c : Dev nD) : (dats m 0 c).arrAt 6 cfg0.N = result m c := by
  refine (dats m 0 c).arrAt_eq_of_covers 6 _ (by decide +kernel) fun t hf y => ?_
  have ht : t.val % 8 = 7 := (flush0_6 t).mp hf
  have hN := lt_N t
  blk_simp
  rw [after0_6]
  have hy : y = ix3 (0 : Fin 1) (y 1 : Fin 512) (y 2 : Fin 2048) := by
    funext a; match a with
    | ⟨0, _⟩ => exact Subsingleton.elim (α := Fin 1) _ _
    | ⟨1, _⟩ => rfl
    | ⟨2, _⟩ => rfl
  rw [hy]
  refine (out_row m c t ht (y 1) (y 2)).trans ?_
  have he : (win0_6.blk t).view.emb (ix3 (0 : Fin 1) (y 1 : Fin 512) (y 2 : Fin 2048)) = ix3 (bat t.val) (rowOf t.val (y 1)) (y 2) := by
    unfold bat rowOf
    blk_ext [(idx_all t).2.2.2.2.2.2]
  exact (congrArg (result m c) he).symm

end Cert.MlpValue
-- ==== Proof.MlpRef.lean ====
/-
  The reference's MLP sub-layer, read at an index.
-/
module

public import proofs.«01_k».proof.Proof.Gen.Reference2Ideal.Run
public import proofs.«01_k».proof.Proof.MlpSpec

@[expose] public section

noncomputable section

namespace Cert.MlpRefValue

open Idealize.ShloMosaic Idealize.SL Idealize.SL.Sem
open Cert.Reference2Ideal Cert.Reference2Ideal.Value Cert.MlpValue

variable (m : (ℓ : Loc nD τ sig) → Buf (Elt Ideal) ℓ)

/-- Rows of the arguments, as functions of the lane. -/
def aX (c : Dev nD) (b : Fin 2) (l : Fin 16384) (d : Fin 2048) : EReal := m (c.tc.loc main_arg0) (ix3 b l d)
def aMod (c : Dev nD) (b : Fin 2) (k : Fin 6) (d : Fin 2048) : EReal := m (c.tc.loc main_arg1) (ix3 b k d)
def aG1 (c : Dev nD) (d : Fin 2048) : EReal := m (c.tc.loc main_arg2) (ix1 d)
def aG2 (c : Dev nD) (d : Fin 2048) : EReal := m (c.tc.loc main_arg3) (ix1 d)
def aW1 (c : Dev nD) (e : Fin 2048) (f : Fin 8192) : EReal := m (c.tc.loc main_arg4) (ix3 1 e f)
def aW2 (c : Dev nD) (f : Fin 8192) (d : Fin 2048) : EReal := m (c.tc.loc main_arg5) (ix3 1 f d)

/-- The reference multiplies the norm's gain and the modulation one after the other: the same product. -/
theorem hid_eq (x g m3 m4 : Fin 2048 → EReal) (d : Fin 2048) :
    x d * nrm x * g d * (1 + m4 d) + m3 d = hid x g m3 m4 d := by
  unfold hid
  rw [mul_assoc (x d * nrm x)]

/-- The reference multiplies the norm by its gain, then by the gate: the same product. -/
theorem resid_eq (x m5 g y : Fin 2048 → EReal) (d : Fin 2048) :
    x d + m5 d * (y d * nrm y * g d) = resid x m5 g y d := by
  unfold resid
  rw [mul_left_comm]

theorem ref_row (c : Dev nD) (b : Fin 2) (l : Fin 16384) (d : Fin 2048) :
    res_main_v49 (F := Ideal) m c (ix3 b l d)
      = row (aX m c b l) (aMod m c b 3) (aMod m c b 4) (aMod m c b 5) (aG1 m c) (aG2 m c) (aW1 m c) (aW2 m c) d := by
  unfold row
  rw [← resid_eq]
  unfold prod act
  simp only [← hid_eq]
  unfold nrm
  pointwise [res_main_v49]
  rfl

end Cert.MlpRefValue
-- ==== Proof.MlpClaim.lean ====
/-
  The fused MLP kernel equals the plain MLP sub-layer over the extended reals, and the frames of the two programs.
-/
module

public import proofs.«01_k».proof.Defs
public import proofs.«01_k».proof.Proof.MlpKernel
public import proofs.«01_k».proof.Proof.MlpRef
public import proofs.«01_k».proof.Proof.Gen.Kernel2.Frame
public import proofs.«01_k».proof.Proof.Gen.Kernel2Ideal
public import proofs.«01_k».proof.Proof.Gen.Reference2Ideal
public import proofs.«01_k».proof.Proof.Gen.Kernel2
public import Idealize.ShloMosaic.Lib.Quiescent

@[expose] public section

noncomputable section

namespace Cert.MlpClaim

open Idealize.ShloMosaic Idealize.SL Idealize.SL.Sem Cert.MlpValue

instance : Cert.Kernel2.Facts := Cert.Kernel2.Gen.facts
instance : Cert.Kernel2Ideal.Facts := Cert.Kernel2Ideal.Gen.facts
instance : Cert.Reference2Ideal.Facts := Cert.Reference2Ideal.Gen.facts

theorem kernel_frame : Cert.quiescent_Kernel2 (hKernel2 := Cert.Kernel2.Gen.facts) :=
  fun m ρ _ => Cert.Kernel2.Gen.frame m ρ

theorem kernelIdeal_frame : Cert.quiescent_Kernel2Ideal (hKernel2Ideal := Cert.Kernel2Ideal.Gen.facts) :=
  fun m ρ _ => Cert.Kernel2Ideal.Gen.frame m ρ

theorem reference_frame : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run (F := Ideal) m ρ)

/-- Both programs leave the same array, from the same arguments. -/
theorem results_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (h5 : m' (c.tc.loc Cert.Reference2Ideal.main_arg5) = m (c.tc.loc Cert.Kernel2Ideal.main_arg5)) :
    Cert.Reference2Ideal.Value.res_main_v49 (F := Ideal) m' c = result m c := by
  have e0 : Cert.MlpRefValue.aX m' c = aX m c := funext fun b => funext fun l => funext fun d => congrFun h0 (ix3 b l d)
  have e1 : Cert.MlpRefValue.aMod m' c = aMod m c := funext fun b => funext fun l => funext fun d => congrFun h1 (ix3 b l d)
  have e2 : Cert.MlpRefValue.aG1 m' c = aG1 m c := funext fun d => congrFun h2 (ix1 d)
  have e3 : Cert.MlpRefValue.aG2 m' c = aG2 m c := funext fun d => congrFun h3 (ix1 d)
  have e4 : Cert.MlpRefValue.aW1 m' c = aW1 m c := funext fun e => funext fun f => congrFun h4 (ix3 1 e f)
  have e5 : Cert.MlpRefValue.aW2 m' c = aW2 m c := funext fun e => funext fun f => congrFun h5 (ix3 1 e f)
  funext i
  have hi : i = ix3 (i 0 : Fin 2) (i 1 : Fin 16384) (i 2 : Fin 2048) := by
    funext a; match a with
    | ⟨0, _⟩ => rfl
    | ⟨1, _⟩ => rfl
    | ⟨2, _⟩ => rfl
  refine (congrArg _ hi).trans ((Cert.MlpRefValue.ref_row m' c (i 0) (i 1) (i 2)).trans ?_)
  rw [e0, e1, e2, e3, e4, e5]
  rfl

theorem algebraic : Cert.algebraic_Kernel2Ideal_Reference2Ideal
    (hKernel2Ideal := Cert.Kernel2Ideal.Gen.facts) (hReference2Ideal := Cert.Reference2Ideal.Gen.facts) := by
  intro m ρ m' ρ' _ hagree
  refine ⟨fun c => result m c, ?_, ?_⟩
  · refine (θ_run _ _ _).mono (fun _ h c => ⟨(h c).1.trans (final m c), (h c).2⟩)
      (Cert.Kernel2Ideal.Value.run_blocks (F := Ideal) m ρ)
  · refine (θ_run _ _ _).mono (fun _ h c => ⟨(h c).1.trans ?_, (h c).2⟩)
      (Cert.Reference2Ideal.Value.run (F := Ideal) m' ρ')
    obtain ⟨h0, h1, h2, h3, h4, h5⟩ := hagree c
    exact results_eq m m' c h0 h1 h2 h3 h4 h5

end Cert.MlpClaim
-- ==== Proof.ProjIn.lean ====
/-
  The normed projection into a mixer, read as a value over the extended reals.
-/
module

public import proofs.«01_k».proof.Proof.Gen.Kernel3Ideal.Value
public import proofs.«01_k».proof.Proof.MlpSpec
public import Idealize.ShloMosaic.Lib.Pipeline.ValueKit
public import Idealize.ShloMosaic.Lib.Pipeline.Value
public import Idealize.ShloMosaic.Lib.Pointwise

@[expose] public section

noncomputable section

namespace Cert.ProjIn

open Idealize.ShloMosaic Idealize.SL Idealize.SL.Sem
open Cert.Kernel3Ideal Cert.Kernel3Ideal.Gen
open Cert.MlpValue (nrm hid)

variable (m : (ℓ : Loc nD τ sig) → Buf (Elt Ideal) ℓ)

/-- The block index of every window at every point of the grid. -/
theorem idx_all : ∀ t : Fin cfg0.N, win0_0.index t = ![t.val / 32, t.val % 32, 0] ∧ win0_1.index t = ![t.val / 32, 0, 0]
    ∧ win0_2.index t = ![0, 0] ∧ win0_3.index t = ![0, 0] ∧ win0_4.index t = ![t.val / 32, t.val % 32, 0] :=
  (by decide +kernel : ∀ t : Fin grid0.N, _)

theorem lt_N (t : Fin cfg0.N) : t.val < 64 := t.isLt

/-- The batch entry of a point. -/
def bat (t : ℕ) : Fin 2 := ⟨t / 32 % 2, by omega⟩
/-- The array row of row `r` of a point's block. -/
def rowOf (t : ℕ) (r : Fin 512) : Fin 16384 := ⟨t % 32 * 512 + r.val, by omega⟩

/-- The arguments, by rows. -/
def aX (c : Dev nD) (b : Fin 2) (l : Fin 16384) (d : Fin 2048) : EReal := m (c.tc.loc main_arg0) (ix3 b l d)
def aMod (c : Dev nD) (b : Fin 2) (k : Fin 6) (d : Fin 2048) : EReal := m (c.tc.loc main_arg1) (ix3 b k d)
def aG (c : Dev nD) (d : Fin 2048) : EReal := m (c.tc.loc main_arg2) (ix1 d)
def aW (c : Dev nD) (d : Fin 2048) (n : Fin 4096) : EReal := m (c.tc.loc main_arg3) (ix2 d n)

theorem blk0 (c : Dev nD) (t : Fin cfg0.N) (r : Fin 512) (d : Fin 2048) :
    iblk m c 0 t (ix3 0 r d) = aX m c (bat t.val) (rowOf t.val r) d := by
  have := lt_N t
  unfold aX bat rowOf
  blk_ext! [iblk, V_main_arg0, (idx_all t).1]

theorem blk1 (c : Dev nD) (t : Fin cfg0.N) (k : Fin 6) (d : Fin 2048) :
    iblk m c 1 t (ix3 0 k d) = aMod m c (bat t.val) k d := by
  have := lt_N t
  unfold aMod bat
  blk_ext! [iblk, V_main_arg1, (idx_all t).2.1]

theorem blk2 (c : Dev nD) (t : Fin cfg0.N) (d : Fin 2048) : iblk m c 2 t (ix2 0 d) = aG m c d := by
  have := lt_N t
  unfold aG
  blk_simp [iblk, (idx_all t).2.2.1]
  entry_read
  pointwise
  blk_ext [(idx_all t).2.2.1]

theorem blk3 (c : Dev nD) (t : Fin cfg0.N) (d : Fin 2048) (n : Fin 4096) : iblk m c 3 t (ix2 d n) = aW m c d n := by
  have := lt_N t
  unfold aW
  blk_simp [iblk, (idx_all t).2.2.2.1]
  entry_read
  pointwise
  blk_ext [(idx_all t).2.2.2.1]

/-- One entry of the projection. -/
def cell (c : Dev nD) (b : Fin 2) (l : Fin 16384) (n : Fin 4096) : EReal :=
  ∑ d, hid (aX m c b l) (aG m c) (aMod m c b 0) (aMod m c b 1) d * aW m c d n

theorem out_at (c : Dev nD) (t : Fin cfg0.N) (r : Fin 512) (n : Fin 4096) :
    out0_4 (iblk m c 0 t) (iblk m c 1 t) (iblk m c 2 t) (iblk m c 3 t) (ix3 0 r n)
      = cell m c (bat t.val) (rowOf t.val r) n := by
  frame_out
  unfold cell hid nrm
  simp only [← blk0 m c t, ← blk1 m c t, ← blk2 m c t, ← blk3 m c t]
  pointwise [k0_pay1]

/-- What the kernel's result array ends holding. -/
def result (c : Dev nD) : Vec Ideal S2x16384x4096 .f32 := fun i => cell m c (i 0) (i 1) (i 2)

theorem final (c : Dev nD) : (dats m 0 c).arrAt 4 cfg0.N = result m c := by
  refine (dats m 0 c).arrAt_eq_of_covers 4 _ (by decide +kernel) fun t hf y => ?_
  have hN := lt_N t
  blk_simp
  rw [after0_4]
  have hy : y = ix3 (0 : Fin 1) (y 1 : Fin 512) (y 2 : Fin 4096) := by
    funext a; match a with
    | ⟨0, _⟩ => exact Subsingleton.elim (α := Fin 1) _ _
    | ⟨1, _⟩ => rfl
    | ⟨2, _⟩ => rfl
  rw [hy]
  refine (out_at m c t (y 1) (y 2)).trans ?_
  have he : (win0_4.blk t).view.emb (ix3 (0 : Fin 1) (y 1 : Fin 512) (y 2 : Fin 4096)) = ix3 (bat t.val) (rowOf t.val (y 1)) (y 2) := by
    unfold bat rowOf
    blk_ext [(idx_all t).2.2.2.2]
  exact (congrArg (result m c) he).symm

end Cert.ProjIn
-- ==== Proof.ProjInClaim.lean ====
/-
  The normed projection kernel equals the plain norm, modulation and product over the extended reals, and the frames of the
  two programs.
-/
module

public import proofs.«01_k».proof.Defs
public import proofs.«01_k».proof.Proof.ProjIn
public import proofs.«01_k».proof.Proof.Gen.Kernel3.Frame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Quiescent

@[expose] public section

noncomputable section

namespace Cert.ProjInClaim

open Idealize.ShloMosaic Idealize.SL Idealize.SL.Sem Cert.ProjIn
open Cert.MlpValue (nrm hid)

instance : Cert.Kernel3.Facts := Cert.Kernel3.Gen.facts
instance : Cert.Kernel3Ideal.Facts := Cert.Kernel3Ideal.Gen.facts
instance : Cert.Reference3Ideal.Facts := Cert.Reference3Ideal.Gen.facts

theorem kernel_frame : Cert.quiescent_Kernel3 (hKernel3 := Cert.Kernel3.Gen.facts) :=
  fun m ρ _ => Cert.Kernel3.Gen.frame m ρ

theorem kernelIdeal_frame : Cert.quiescent_Kernel3Ideal (hKernel3Ideal := Cert.Kernel3Ideal.Gen.facts) :=
  fun m ρ _ => Cert.Kernel3Ideal.Gen.frame m ρ

theorem reference_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run (F := Ideal) m ρ)

/-- The reference multiplies the norm's gain and the modulation one after the other: the same product. -/
theorem hid_eq (x g m0 m1 : Fin 2048 → EReal) (d : Fin 2048) :
    x d * nrm x * g d * (1 + m1 d) + m0 d = hid x g m0 m1 d := by
  unfold hid
  rw [mul_assoc (x d * nrm x)]

theorem algebraic : Cert.algebraic_Kernel3Ideal_Reference3Ideal
    (hKernel3Ideal := Cert.Kernel3Ideal.Gen.facts) (hReference3Ideal := Cert.Reference3Ideal.Gen.facts) := by
  intro m ρ m' ρ' _ hagree
  refine ⟨fun c => result m c, ?_, ?_⟩
  · refine (θ_run _ _ _).mono (fun _ h c => ⟨(h c).1.trans (final m c), (h c).2⟩)
      (Cert.Kernel3Ideal.Value.run_blocks (F := Ideal) m ρ)
  · refine (θ_run _ _ _).mono (fun _ h c => ⟨(h c).1.trans ?_, (h c).2⟩)
      (Cert.Reference3Ideal.Value.run (F := Ideal) m' ρ')
    obtain ⟨h0, h1, h2, h3⟩ := hagree c
    rw [h0, h1, h2, h3]
    funext i
    have hi : i = ix3 (i 0 : Fin 2) (i 1 : Fin 16384) (i 2 : Fin 4096) := by
      funext a; match a with
      | ⟨0, _⟩ => rfl
      | ⟨1, _⟩ => rfl
      | ⟨2, _⟩ => rfl
    refine (congrArg _ hi).trans (Eq.trans ?_ (congrArg (result m c) hi).symm)
    generalize (i 0 : Fin 2) = b
    generalize (i 1 : Fin 16384) = l
    generalize (i 2 : Fin 4096) = n
    refine Eq.trans ?_ (show cell m c b l n = _ from rfl)
    unfold cell
    simp only [← hid_eq]
    unfold nrm
    pointwise
    rfl

end Cert.ProjInClaim
-- ==== Proof.MixSpec.lean ====
/-
  The projection out of a pair of mixers as a function of extended reals: what the kernels and the references compute.
-/
module

public import proofs.«01_k».proof.Proof.MlpSpec

@[expose] public section

noncomputable section

namespace Cert.Mix

open Idealize.ShloMosaic
open Cert.MlpValue (nrm)

/-- The gated residual of a row and the normed product added to it. -/
def out (x m2 g y : Fin 2048 → EReal) (d : Fin 2048) : EReal := x d + m2 d * (y d * nrm y * g d)

/-- The product of a row's two halves with the two halves of the weight's rows. -/
def halves (a b : Fin 1024 → EReal) (w : Fin 2048 → Fin 2048 → EReal) (d : Fin 2048) : EReal :=
  ∑ k : Fin 1024, a k * w ⟨k.val, by omega⟩ d + ∑ k : Fin 1024, b k * w ⟨1024 + k.val, by omega⟩ d

end Cert.Mix
-- ==== Proof.MixAb.lean ====
/-
  The projection out of the convolution and recurrence mixers, read as a value over the extended reals.
-/
module

public import proofs.«01_k».proof.Proof.Gen.Kernel4Ideal.Value
public import proofs.«01_k».proof.Proof.MixSpec
public import Idealize.ShloMosaic.Lib.Pipeline.ValueKit
public import Idealize.ShloMosaic.Lib.Pipeline.Value
public import Idealize.ShloMosaic.Lib.Pointwise

@[expose] public section

noncomputable section

namespace Cert.MixAb

open Idealize.ShloMosaic Idealize.SL Idealize.SL.Sem
open Cert.Kernel4Ideal Cert.Kernel4Ideal.Gen
open Cert.MlpValue (nrm)
open Cert.Mix

variable (m : (ℓ : Loc nD τ sig) → Buf (Elt Ideal) ℓ)

/-- The block index of every window at every point of the grid. -/
theorem idx_all : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 3]
    ∧ win0_4.index t = ![t.val / 32, t.val % 32, 0] ∧ win0_5.index t = ![t.val / 32, 0, 0] ∧ win0_6.index t = ![0, 0]
    ∧ win0_7.index t = ![0, 0] ∧ win0_8.index t = ![1, 0] ∧ win0_9.index t = ![t.val / 32, t.val % 32, 0] :=
  (by decide +kernel : ∀ t : Fin grid0.N, _)

theorem lt_N (t : Fin cfg0.N) : t.val < 64 := t.isLt

/-- The batch entry of a point. -/
def bat (t : ℕ) : Fin 2 := ⟨t / 32 % 2, by omega⟩
/-- The array row of row `r` of a point's block. -/
def rowOf (t : ℕ) (r : Fin 512) : Fin 16384 := ⟨t % 32 * 512 + r.val, by omega⟩

/-- The arguments, by rows. -/
def aC (c : Dev nD) (b : Fin 2) (l : Fin 16384) (k : Fin 1024) : EReal := m (c.tc.loc main_arg0) (ix3 b l k)
def aHf (c : Dev nD) (b : Fin 2) (l : Fin 16384) (k : Fin 1024) : EReal := m (c.tc.loc main_arg1) (ix3 b l k)
def aHr (c : Dev nD) (b : Fin 2) (l : Fin 16384) (k : Fin 1024) : EReal := m (c.tc.loc main_arg2) (ix3 b l k)
def aP (c : Dev nD) (b : Fin 2) (l : Fin 16384) (n : Fin 4096) : EReal := m (c.tc.loc main_arg3) (ix3 b l n)
def aX (c : Dev nD) (b : Fin 2) (l : Fin 16384) (d : Fin 2048) : EReal := m (c.tc.loc main_arg4) (ix3 b l d)
def aMod (c : Dev nD) (b : Fin 2) (k : Fin 6) (d : Fin 2048) : EReal := m (c.tc.loc main_arg5) (ix3 b k d)
def aG (c : Dev nD) (d : Fin 2048) : EReal := m (c.tc.loc main_arg6) (ix1 d)
def aW (c : Dev nD) (e d : Fin 2048) : EReal := m (c.tc.loc main_arg7) (ix2 e d)

theorem blk0 (c : Dev nD) (t : Fin cfg0.N) (r : Fin 512) (k : Fin 1024) :
    iblk m c 0 t (ix3 0 r k) = aC m c (bat t.val) (rowOf t.val r) k := by
  have := lt_N t
  unfold aC bat rowOf
  blk_ext! [iblk, V_main_arg0, (idx_all t).1]

theorem blk1 (c : Dev nD) (t : Fin cfg0.N) (r : Fin 512) (k : Fin 1024) :
    iblk m c 1 t (ix3 0 r k) = aHf m c (bat t.val) (rowOf t.val r) k := by
  have := lt_N t
  unfold aHf bat rowOf
  blk_ext! [iblk, V_main_arg1, (idx_all t).2.1]

theorem blk2 (c : Dev nD) (t : Fin cfg0.N) (r : Fin 512) (k : Fin 1024) :
    iblk m c 2 t (ix3 0 r k) = aHr m c (bat t.val) (rowOf t.val r) k := by
  have := lt_N t
  unfold aHr bat rowOf
  blk_ext! [iblk, V_main_arg2, (idx_all t).2.2.1]

theorem blk3 (c : Dev nD) (t : Fin cfg0.N) (r : Fin 512) (k : Fin 1024) :
    iblk m c 3 t (ix3 0 r k) = aP m c (bat t.val) (rowOf t.val r) ⟨3072 + k.val, by omega⟩ := by
  have := lt_N t
  unfold aP bat rowOf
  blk_ext! [iblk, V_main_arg3, (idx_all t).2.2.2.1]

theorem blk4 (c : Dev nD) (t : Fin cfg0.N) (r : Fin 512) (d : Fin 2048) :
    iblk m c 4 t (ix3 0 r d) = aX m c (bat t.val) (rowOf t.val r) d := by
  have := lt_N t
  unfold aX bat rowOf
  blk_ext! [iblk, V_main_arg4, (idx_all t).2.2.2.2.1]

theorem blk5 (c : Dev nD) (t : Fin cfg0.N) (k : Fin 6) (d : Fin 2048) :
    iblk m c 5 t (ix3 0 k d) = aMod m c (bat t.val) k d := by
  have := lt_N t
  unfold aMod bat
  blk_ext! [iblk, V_main_arg5, (idx_all t).2.2.2.2.2.1]

theorem blk6 (c : Dev nD) (t : Fin cfg0.N) (d : Fin 2048) : iblk m c 6 t (ix2 0 d) = aG m c d := by
  have := lt_N t
  unfold aG
  blk_simp [iblk, (idx_all t).2.2.2.2.2.2.1]
  entry_read
  pointwise
  blk_ext [(idx_all t).2.2.2.2.2.2.1]

theorem blk7 (c : Dev nD) (t : Fin cfg0.N) (k : Fin 1024) (d : Fin 2048) :
    iblk m c 7 t (ix2 k d) = aW m c ⟨k.val, by omega⟩ d := by
  have := lt_N t
  unfold aW
  blk_simp [iblk, (idx_all t).2.2.2.2.2.2.2.1]
  entry_read
  pointwise
  blk_ext [(idx_all t).2.2.2.2.2.2.2.1]

theorem blk8 (c : Dev nD) (t : Fin cfg0.N) (k : Fin 1024) (d : Fin 2048) :
    iblk m c 8 t (ix2 k d) = aW m c ⟨1024 + k.val, by omega⟩ d := by
  have := lt_N t
  unfold aW
  blk_simp [iblk, (idx_all t).2.2.2.2.2.2.2.2.1]
  entry_read
  pointwise
  blk_ext [(idx_all t).2.2.2.2.2.2.2.2.1]

/-- The gate's smooth unit of one number, in its hyperbolic-tangent form. -/
def gelu (v : EReal) : EReal :=
  v * (Ideal.ofBits .f32 0x3F000000#32 * (1 + Ideal.tanh (Ideal.ofBits .f32 0x3F4C422A#32 *
    (v + Ideal.ofBits .f32 0x3D372713#32 * (v * (v * v))))))

/-- The recurrence's two directions added and gated. -/
def gated (hf hr : Fin 1024 → EReal) (p : Fin 4096 → EReal) (k : Fin 1024) : EReal :=
  (hf k + hr k) * gelu (p ⟨3072 + k.val, by omega⟩)

/-- One entry of the sub-layer's output. -/
def cell (c : Dev nD) (b : Fin 2) (l : Fin 16384) (d : Fin 2048) : EReal :=
  out (aX m c b l) (aMod m c b 2) (aG m c) (halves (aC m c b l) (gated (aHf m c b l) (aHr m c b l) (aP m c b l)) (aW m c)) d

theorem out_at (c : Dev nD) (t : Fin cfg0.N) (r : Fin 512) (d : Fin 2048) :
    out0_9 (iblk m c 0 t) (iblk m c 1 t) (iblk m c 2 t) (iblk m c 3 t) (iblk m c 4 t) (iblk m c 5 t) (iblk m c 6 t)
        (iblk m c 7 t) (iblk m c 8 t) (ix3 0 r d)
      = cell m c (bat t.val) (rowOf t.val r) d := by
  frame_out
  unfold cell out nrm halves gated gelu
  simp only [← blk0 m c t, ← blk1 m c t, ← blk2 m c t, ← blk3 m c t, ← blk4 m c t, ← blk5 m c t, ← blk6 m c t,
    ← blk7 m c t, ← blk8 m c t]
  pointwise [k0_pay1, k0_pay2, k0_pay3]

/-- What the kernel's result array ends holding. -/
def result (c : Dev nD) : Vec Ideal S2x16384x2048 .f32 := fun i => cell m c (i 0) (i 1) (i 2)

theorem final (c : Dev nD) : (dats m 0 c).arrAt 9 cfg0.N = result m c := by
  refine (dats m 0 c).arrAt_eq_of_covers 9 _ (by decide +kernel) fun t hf y => ?_
  have hN := lt_N t
  blk_simp
  rw [after0_9]
  have hy : y = ix3 (0 : Fin 1) (y 1 : Fin 512) (y 2 : Fin 2048) := by
    funext a; match a with
    | ⟨0, _⟩ => exact Subsingleton.elim (α := Fin 1) _ _
    | ⟨1, _⟩ => rfl
    | ⟨2, _⟩ => rfl
  rw [hy]
  refine (out_at m c t (y 1) (y 2)).trans ?_
  have he : (win0_9.blk t).view.emb (ix3 (0 : Fin 1) (y 1 : Fin 512) (y 2 : Fin 2048)) = ix3 (bat t.val) (rowOf t.val (y 1)) (y 2) := by
    unfold bat rowOf
    blk_ext [(idx_all t).2.2.2.2.2.2.2.2.2]
  exact (congrArg (result m c) he).symm

end Cert.MixAb
-- ==== Proof.MixAbClaim.lean ====
/-
  The kernel projecting out of the convolution and recurrence mixers equals the plain product, norm and gated residual over the
  extended reals, and the frames of the two programs.
-/
module

public import proofs.«01_k».proof.Defs
public import proofs.«01_k».proof.Proof.MixAb
public import proofs.«01_k».proof.Proof.Gen.Kernel4.Frame
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import Idealize.ShloMosaic.Lib.Quiescent

@[expose] public section

noncomputable section

namespace Cert.MixAbClaim

open Idealize.ShloMosaic Idealize.SL Idealize.SL.Sem Cert.MixAb
open Cert.MlpValue (nrm)
open Cert.Mix

instance : Cert.Kernel4.Facts := Cert.Kernel4.Gen.facts
instance : Cert.Kernel4Ideal.Facts := Cert.Kernel4Ideal.Gen.facts
instance : Cert.Reference4Ideal.Facts := Cert.Reference4Ideal.Gen.facts

theorem kernel_frame : Cert.quiescent_Kernel4 (hKernel4 := Cert.Kernel4.Gen.facts) :=
  fun m ρ _ => Cert.Kernel4.Gen.frame m ρ

theorem kernelIdeal_frame : Cert.quiescent_Kernel4Ideal (hKernel4Ideal := Cert.Kernel4Ideal.Gen.facts) :=
  fun m ρ _ => Cert.Kernel4Ideal.Gen.frame m ρ

theorem reference_frame : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run (F := Ideal) m ρ)

/-- The reference takes the cube as the square times the number: the same product. -/
theorem gelu_eq (v : EReal) : gelu v = v * (Ideal.ofBits .f32 0x3F000000#32 * (1 + Ideal.tanh (Ideal.ofBits .f32 0x3F4C422A#32 *
    (v + Ideal.ofBits .f32 0x3D372713#32 * (v * v * v))))) := by
  unfold gelu
  rw [mul_assoc v v v]

theorem algebraic : Cert.algebraic_Kernel4Ideal_Reference4Ideal
    (hKernel4Ideal := Cert.Kernel4Ideal.Gen.facts) (hReference4Ideal := Cert.Reference4Ideal.Gen.facts) := by
  intro m ρ m' ρ' _ hagree
  refine ⟨fun c => result m c, ?_, ?_⟩
  · refine (θ_run _ _ _).mono (fun _ h c => ⟨(h c).1.trans (final m c), (h c).2⟩)
      (Cert.Kernel4Ideal.Value.run_blocks (F := Ideal) m ρ)
  · refine (θ_run _ _ _).mono (fun _ h c => ⟨(h c).1.trans ?_, (h c).2⟩)
      (Cert.Reference4Ideal.Value.run (F := Ideal) m' ρ')
    obtain ⟨h0, h1, h2, h3, h4, h5, h6, h7⟩ := hagree c
    unfold Cert.Reference4Ideal.Value.res_main_v40
    rw [h0, h1, h2, h3, h4, h5, h6, h7]
    funext i
    have hi : i = ix3 (i 0 : Fin 2) (i 1 : Fin 16384) (i 2 : Fin 2048) := by
      funext a; match a with
      | ⟨0, _⟩ => rfl
      | ⟨1, _⟩ => rfl
      | ⟨2, _⟩ => rfl
    refine (congrArg _ hi).trans (Eq.trans ?_ (congrArg (result m c) hi).symm)
    generalize (i 0 : Fin 2) = b
    generalize (i 1 : Fin 16384) = l
    generalize (i 2 : Fin 2048) = d
    refine Eq.trans ?_ (show cell m c b l d = _ from rfl)
    unfold cell out nrm halves gated
    simp only [gelu_eq]
    pointwise
    rfl

end Cert.MixAbClaim
-- ==== Proof.MixCd.lean ====
/-
  The projection out of the Fourier and attention mixers, read as a value over the extended reals.
-/
module

public import proofs.«01_k».proof.Proof.Gen.Kernel5Ideal.Value
public import proofs.«01_k».proof.Proof.MixSpec
public import Idealize.ShloMosaic.Lib.Pipeline.ValueKit
public import Idealize.ShloMosaic.Lib.Pipeline.Value
public import Idealize.ShloMosaic.Lib.Pointwise

@[expose] public section

noncomputable section

namespace Cert.MixCd

open Idealize.ShloMosaic Idealize.SL Idealize.SL.Sem
open Cert.Kernel5Ideal Cert.Kernel5Ideal.Gen
open Cert.MlpValue (nrm)
open Cert.Mix

variable (m : (ℓ : Loc nD τ sig) → Buf (Elt Ideal) ℓ)

/-- The block index of every window at every point of the grid. -/
theorem idx_all : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, 0, 0] ∧ win0_4.index t = ![0, 0]
    ∧ win0_5.index t = ![0, 0] ∧ win0_6.index t = ![1, 0] ∧ win0_7.index t = ![t.val / 32, t.val % 32, 0] :=
  (by decide +kernel : ∀ t : Fin grid0.N, _)

theorem lt_N (t : Fin cfg0.N) : t.val < 64 := t.isLt

/-- The batch entry of a point. -/
def bat (t : ℕ) : Fin 2 := ⟨t / 32 % 2, by omega⟩
/-- The array row of row `r` of a point's block. -/
def rowOf (t : ℕ) (r : Fin 512) : Fin 16384 := ⟨t % 32 * 512 + r.val, by omega⟩

/-- The arguments, by rows. -/
def aF (c : Dev nD) (b : Fin 2) (l : Fin 16384) (k : Fin 1024) : EReal := m (c.tc.loc main_arg0) (ix3 b l k)
def aA (c : Dev nD) (b : Fin 2) (l : Fin 16384) (k : Fin 1024) : EReal := m (c.tc.loc main_arg1) (ix3 b l k)
def aX (c : Dev nD) (b : Fin 2) (l : Fin 16384) (d : Fin 2048) : EReal := m (c.tc.loc main_arg2) (ix3 b l d)
def aMod (c : Dev nD) (b : Fin 2) (k : Fin 6) (d : Fin 2048) : EReal := m (c.tc.loc main_arg3) (ix3 b k d)
def aG (c : Dev nD) (d : Fin 2048) : EReal := m (c.tc.loc main_arg4) (ix1 d)
def aW (c : Dev nD) (e d : Fin 2048) : EReal := m (c.tc.loc main_arg5) (ix2 e d)

theorem blk0 (c : Dev nD) (t : Fin cfg0.N) (r : Fin 512) (k : Fin 1024) :
    iblk m c 0 t (ix3 0 r k) = aF m c (bat t.val) (rowOf t.val r) k := by
  have := lt_N t
  unfold aF bat rowOf
  blk_ext! [iblk, V_main_arg0, (idx_all t).1]

theorem blk1 (c : Dev nD) (t : Fin cfg0.N) (r : Fin 512) (k : Fin 1024) :
    iblk m c 1 t (ix3 0 r k) = aA m c (bat t.val) (rowOf t.val r) k := by
  have := lt_N t
  unfold aA bat rowOf
  blk_ext! [iblk, V_main_arg1, (idx_all t).2.1]

theorem blk2 (c : Dev nD) (t : Fin cfg0.N) (r : Fin 512) (d : Fin 2048) :
    iblk m c 2 t (ix3 0 r d) = aX m c (bat t.val) (rowOf t.val r) d := by
  have := lt_N t
  unfold aX bat rowOf
  blk_ext! [iblk, V_main_arg2, (idx_all t).2.2.1]

theorem blk3 (c : Dev nD) (t : Fin cfg0.N) (k : Fin 6) (d : Fin 2048) :
    iblk m c 3 t (ix3 0 k d) = aMod m c (bat t.val) k d := by
  have := lt_N t
  unfold aMod bat
  blk_ext! [iblk, V_main_arg3, (idx_all t).2.2.2.1]

theorem blk4 (c : Dev nD) (t : Fin cfg0.N) (d : Fin 2048) : iblk m c 4 t (ix2 0 d) = aG m c d := by
  have := lt_N t
  unfold aG
  blk_simp [iblk, (idx_all t).2.2.2.2.1]
  entry_read
  pointwise
  blk_ext [(idx_all t).2.2.2.2.1]

theorem blk5 (c : Dev nD) (t : Fin cfg0.N) (k : Fin 1024) (d : Fin 2048) :
    iblk m c 5 t (ix2 k d) = aW m c ⟨k.val, by omega⟩ d := by
  have := lt_N t
  unfold aW
  blk_simp [iblk, (idx_all t).2.2.2.2.2.1]
  entry_read
  pointwise
  blk_ext [(idx_all t).2.2.2.2.2.1]

theorem blk6 (c : Dev nD) (t : Fin cfg0.N) (k : Fin 1024) (d : Fin 2048) :
    iblk m c 6 t (ix2 k d) = aW m c ⟨1024 + k.val, by omega⟩ d := by
  have := lt_N t
  unfold aW
  blk_simp [iblk, (idx_all t).2.2.2.2.2.2.1]
  entry_read
  pointwise
  blk_ext [(idx_all t).2.2.2.2.2.2.1]

/-- One entry of the sub-layer's output. -/
def cell (c : Dev nD) (b : Fin 2) (l : Fin 16384) (d : Fin 2048) : EReal :=
  out (aX m c b l) (aMod m c b 2) (aG m c) (halves (aF m c b l) (aA m c b l) (aW m c)) d

theorem out_at (c : Dev nD) (t : Fin cfg0.N) (r : Fin 512) (d : Fin 2048) :
    out0_7 (iblk m c 0 t) (iblk m c 1 t) (iblk m c 2 t) (iblk m c 3 t) (iblk m c 4 t) (iblk m c 5 t) (iblk m c 6 t) (ix3 0 r d)
      = cell m c (bat t.val) (rowOf t.val r) d := by
  frame_out
  unfold cell out nrm halves
  simp only [← blk0 m c t, ← blk1 m c t, ← blk2 m c t, ← blk3 m c t, ← blk4 m c t, ← blk5 m c t, ← blk6 m c t]
  pointwise [k0_pay1, k0_pay2]

/-- What the kernel's result array ends holding. -/
def result (c : Dev nD) : Vec Ideal S2x16384x2048 .f32 := fun i => cell m c (i 0) (i 1) (i 2)

theorem final (c : Dev nD) : (dats m 0 c).arrAt 7 cfg0.N = result m c := by
  refine (dats m 0 c).arrAt_eq_of_covers 7 _ (by decide +kernel) fun t hf y => ?_
  have hN := lt_N t
  blk_simp
  rw [after0_7]
  have hy : y = ix3 (0 : Fin 1) (y 1 : Fin 512) (y 2 : Fin 2048) := by
    funext a; match a with
    | ⟨0, _⟩ => exact Subsingleton.elim (α := Fin 1) _ _
    | ⟨1, _⟩ => rfl
    | ⟨2, _⟩ => rfl
  rw [hy]
  refine (out_at m c t (y 1) (y 2)).trans ?_
  have he : (win0_7.blk t).view.emb (ix3 (0 : Fin 1) (y 1 : Fin 512) (y 2 : Fin 2048)) = ix3 (bat t.val) (rowOf t.val (y 1)) (y 2) := by
    unfold bat rowOf
    blk_ext [(idx_all t).2.2.2.2.2.2.2]
  exact (congrArg (result m c) he).symm

end Cert.MixCd
-- ==== Proof.MixCdClaim.lean ====
/-
  The kernel projecting out of the Fourier and attention mixers equals the plain product, norm and gated residual over the
  extended reals, and the frames of the two programs.
-/
module

public import proofs.«01_k».proof.Defs
public import proofs.«01_k».proof.Proof.MixCd
public import proofs.«01_k».proof.Proof.Gen.Kernel5.Frame
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import Idealize.ShloMosaic.Lib.Quiescent

@[expose] public section

noncomputable section

namespace Cert.MixCdClaim

open Idealize.ShloMosaic Idealize.SL Idealize.SL.Sem Cert.MixCd
open Cert.MlpValue (nrm)
open Cert.Mix

instance : Cert.Kernel5.Facts := Cert.Kernel5.Gen.facts
instance : Cert.Kernel5Ideal.Facts := Cert.Kernel5Ideal.Gen.facts
instance : Cert.Reference5Ideal.Facts := Cert.Reference5Ideal.Gen.facts

theorem kernel_frame : Cert.quiescent_Kernel5 (hKernel5 := Cert.Kernel5.Gen.facts) :=
  fun m ρ _ => Cert.Kernel5.Gen.frame m ρ

theorem kernelIdeal_frame : Cert.quiescent_Kernel5Ideal (hKernel5Ideal := Cert.Kernel5Ideal.Gen.facts) :=
  fun m ρ _ => Cert.Kernel5Ideal.Gen.frame m ρ

theorem reference_frame : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

theorem algebraic : Cert.algebraic_Kernel5Ideal_Reference5Ideal
    (hKernel5Ideal := Cert.Kernel5Ideal.Gen.facts) (hReference5Ideal := Cert.Reference5Ideal.Gen.facts) := by
  intro m ρ m' ρ' _ hagree
  refine ⟨fun c => result m c, ?_, ?_⟩
  · refine (θ_run _ _ _).mono (fun _ h c => ⟨(h c).1.trans (final m c), (h c).2⟩)
      (Cert.Kernel5Ideal.Value.run_blocks (F := Ideal) m ρ)
  · refine (θ_run _ _ _).mono (fun _ h c => ⟨(h c).1.trans ?_, (h c).2⟩)
      (Cert.Reference5Ideal.Value.run (F := Ideal) m' ρ')
    obtain ⟨h0, h1, h2, h3, h4, h5⟩ := hagree c
    rw [h0, h1, h2, h3, h4, h5]
    funext i
    have hi : i = ix3 (i 0 : Fin 2) (i 1 : Fin 16384) (i 2 : Fin 2048) := by
      funext a; match a with
      | ⟨0, _⟩ => rfl
      | ⟨1, _⟩ => rfl
      | ⟨2, _⟩ => rfl
    refine (congrArg _ hi).trans (Eq.trans ?_ (congrArg (result m c) hi).symm)
    generalize (i 0 : Fin 2) = b
    generalize (i 1 : Fin 16384) = l
    generalize (i 2 : Fin 2048) = d
    refine Eq.trans ?_ (show cell m c b l d = _ from rfl)
    unfold cell out nrm halves
    pointwise
    rfl

end Cert.MixCdClaim
-- ==== Proof.ProjCdRun.lean ====
/-
  The run of the projection into the Fourier and attention mixers: what its two regions leave in the result array.
-/
module

public import proofs.«01_k».proof.Proof.Gen.Kernel6Ideal.Frame

@[expose] public section

set_option maxRecDepth 16384

noncomputable section

namespace Cert.ProjCd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array ends as the second region leaves it, and the arguments end as launched. -/
theorem run : θ_run defs (onTc (τ := τ) (main (F := F))) ⟨m, fun _ => 0, ρ⟩ (fun r => ∀ c : Dev nD,
      r.2.mem ((c.tc : Thread nD τ).loc main_v10) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v10 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.ProjCd
-- ==== Proof.ProjCd.lean ====
/-
  The projection into the Fourier and attention mixers, read as a value over the extended reals: the latent rows a first
  region writes, then the context's rows a second region writes below them.
-/
module

public import proofs.«01_k».proof.Proof.ProjCdRun
public import proofs.«01_k».proof.Proof.MlpSpec
public import Idealize.ShloMosaic.Lib.Pipeline.ValueKit
public import Idealize.ShloMosaic.Lib.Pipeline.Value
public import Idealize.ShloMosaic.Lib.Pointwise

@[expose] public section

noncomputable section

namespace Cert.ProjCd

open Idealize.ShloMosaic Idealize.SL Idealize.SL.Sem
open Cert.Kernel6Ideal Cert.Kernel6Ideal.Gen
open Cert.MlpValue (nrm hid)

/-! ## A region's blocks, at any contents of the buffers it is entered with -/

section Blocks

variable (V : (c : Dev nD) → (b : Ref sig .tc) → Buf (Elt Ideal) ((c.tc : Thread nD τ).loc b))

/-- The block index of every window at every point of the two grids. -/
theorem idx0 : ∀ t : Fin cfg0.N, win0_0.index t = ![t.val / 32, t.val % 32, 0] ∧ win0_1.index t = ![t.val / 32, 0, 0]
    ∧ win0_2.index t = ![0, 0] ∧ win0_3.index t = ![0, 0] ∧ win0_4.index t = ![t.val / 32, t.val % 32, 0] :=
  (by decide +kernel : ∀ t : Fin grid0.N, _)
theorem idx1 : ∀ t : Fin cfg1.N, win1_0.index t = ![t.val, 0, 0] ∧ win1_1.index t = ![t.val, 0, 0]
    ∧ win1_2.index t = ![0, 0] ∧ win1_3.index t = ![0, 0] ∧ win1_4.index t = ![t.val, 64, 0] :=
  (by decide +kernel : ∀ t : Fin grid1.N, _)

theorem lt_N0 (t : Fin cfg0.N) : t.val < 64 := t.isLt
theorem lt_N1 (t : Fin cfg1.N) : t.val < 2 := t.isLt

/-- The batch entry of a point of the first grid, and the array row of row `r` of its block. -/
def bat (t : ℕ) : Fin 2 := ⟨t / 32 % 2, by omega⟩
def rowOf (t : ℕ) (r : Fin 512) : Fin 16384 := ⟨t % 32 * 512 + r.val, by omega⟩
/-- The batch entry of a point of the second grid. -/
def bat1 (t : ℕ) : Fin 2 := ⟨t % 2, by omega⟩

/-- The buffers a region reads, by rows. -/
def vX (c : Dev nD) (b : Fin 2) (l : Fin 16384) (d : Fin 2048) : EReal := V c main_arg0 (ix3 b l d)
def vC (c : Dev nD) (b : Fin 2) (l : Fin 256) (d : Fin 2048) : EReal := V c main_arg1 (ix3 b l d)
def vMl (c : Dev nD) (b : Fin 2) (k : Fin 6) (d : Fin 2048) : EReal := V c main_arg2 (ix3 b k d)
def vMc (c : Dev nD) (b : Fin 2) (k : Fin 6) (d : Fin 2048) : EReal := V c main_arg3 (ix3 b k d)
def vG0 (c : Dev nD) (d : Fin 2048) : EReal := V c main_v7 (ix2 0 d)
def vG1 (c : Dev nD) (d : Fin 2048) : EReal := V c main_v9 (ix2 0 d)
def vW (c : Dev nD) (d : Fin 2048) (n : Fin 2304) : EReal := V c main_v6 (ix2 d n)

theorem blk0_0 (c : Dev nD) (t : Fin cfg0.N) (r : Fin 512) (d : Fin 2048) :
    iblk0 V c 0 t (ix3 0 r d) = vX V c (bat t.val) (rowOf t.val r) d := by
  have := lt_N0 t
  unfold vX bat rowOf
  blk_ext [iblk0, (idx0 t).1]

theorem blk0_1 (c : Dev nD) (t : Fin cfg0.N) (k : Fin 6) (d : Fin 2048) :
    iblk0 V c 1 t (ix3 0 k d) = vMl V c (bat t.val) k d := by
  have := lt_N0 t
  unfold vMl bat
  blk_ext [iblk0, (idx0 t).2.1]

theorem blk0_2 (c : Dev nD) (t : Fin cfg0.N) (d : Fin 2048) : iblk0 V c 2 t (ix2 0 d) = vG0 V c d := by
  have := lt_N0 t
  unfold vG0
  blk_ext [iblk0, (idx0 t).2.2.1]

theorem blk0_3 (c : Dev nD) (t : Fin cfg0.N) (d : Fin 2048) (n : Fin 2304) : iblk0 V c 3 t (ix2 d n) = vW V c d n := by
  have := lt_N0 t
  unfold vW
  blk_ext [iblk0, (idx0 t).2.2.2.1]

theorem blk1_0 (c : Dev nD) (t : Fin cfg1.N) (r : Fin 256) (d : Fin 2048) :
    iblk1 V c 0 t (ix3 0 r d) = vC V c (bat1 t.val) r d := by
  have := lt_N1 t
  unfold vC bat1
  blk_ext [iblk1, (idx1 t).1]

theorem blk1_1 (c : Dev nD) (t : Fin cfg1.N) (k : Fin 6) (d : Fin 2048) :
    iblk1 V c 1 t (ix3 0 k d) = vMc V c (bat1 t.val) k d := by
  have := lt_N1 t
  unfold vMc bat1
  blk_ext [iblk1, (idx1 t).2.1]

theorem blk1_2 (c : Dev nD) (t : Fin cfg1.N) (d : Fin 2048) : iblk1 V c 2 t (ix2 0 d) = vG1 V c d := by
  have := lt_N1 t
  unfold vG1
  blk_ext [iblk1, (idx1 t).2.2.1]

theorem blk1_3 (c : Dev nD) (t : Fin cfg1.N) (d : Fin 2048) (n : Fin 2304) : iblk1 V c 3 t (ix2 d n) = vW V c d n := by
  have := lt_N1 t
  unfold vW
  blk_ext [iblk1, (idx1 t).2.2.2.1]

/-- One entry of a normed, modulated row's product with the weights. -/
def dotAt (x g m0 m1 : Fin 2048 → EReal) (w : Fin 2048 → Fin 2304 → EReal) (n : Fin 2304) : EReal :=
  ∑ d, hid x g m0 m1 d * w d n

theorem out0_at (c : Dev nD) (t : Fin cfg0.N) (r : Fin 512) (n : Fin 2304) :
    out0_4 (iblk0 V c 0 t) (iblk0 V c 1 t) (iblk0 V c 2 t) (iblk0 V c 3 t) (ix3 0 r n)
      = dotAt (vX V c (bat t.val) (rowOf t.val r)) (vG0 V c) (vMl V c (bat t.val) 0) (vMl V c (bat t.val) 1) (vW V c) n := by
  frame_out
  unfold dotAt hid nrm
  simp only [← blk0_0 V c t, ← blk0_1 V c t, ← blk0_2 V c t, ← blk0_3 V c t]
  pointwise [k0_pay1]

theorem out1_at (c : Dev nD) (t : Fin cfg1.N) (r : Fin 256) (n : Fin 2304) :
    outsAt1 V c t (ix3 0 r n)
      = dotAt (vC V c (bat1 t.val) r) (vG1 V c) (vMc V c (bat1 t.val) 0) (vMc V c (bat1 t.val) 1) (vW V c) n := by
  unfold outsAt1
  frame_out
  unfold dotAt hid nrm
  simp only [← blk1_0 V c t, ← blk1_1 V c t, ← blk1_2 V c t, ← blk1_3 V c t]
  pointwise [k1_pay1]

/-- What the first region leaves in a latent row, and the second in a context row (rows counted over the whole array). -/
def latAt (c : Dev nD) (i : S2x16640x2304.Idx) : EReal :=
  dotAt (vX V c (i 0) ⟨(i 1 : ℕ) % 16384, Nat.mod_lt _ (by decide)⟩) (vG0 V c) (vMl V c (i 0) 0) (vMl V c (i 0) 1) (vW V c) (i 2)
def ctxAt (c : Dev nD) (i : S2x16640x2304.Idx) : EReal :=
  dotAt (vC V c (i 0) ⟨(i 1 : ℕ) % 256, Nat.mod_lt _ (by decide)⟩) (vG1 V c) (vMc V c (i 0) 0) (vMc V c (i 0) 1) (vW V c) (i 2)

theorem final0 (c : Dev nD) (i : S2x16640x2304.Idx) (hi : (i 1 : ℕ) / 512 < 32) :
    (dat0 V c).arrAt 4 cfg0.N i = latAt V c i := by
  refine ((dat0 V c).arrAt_apply_of_coversWhere 4 (latAt V c) (P := fun i => (i 1 : ℕ) / 512 < 32)
    (fun β => β (1 : Fin 3) < 32) (by decide +kernel) (fun t hf y => ?_) (fun j => Iff.rfl) i).trans (if_pos hi)
  have hN := lt_N0 t
  blk_simp
  rw [after0_4]
  have hx : ((cfg0.win 4).xinj (cfg0.grid.coords t) y : S1x512x2304.Idx)
      = ix3 (0 : Fin 1) ((cfg0.win 4).xinj (cfg0.grid.coords t) y 1 : Fin 512) ((cfg0.win 4).xinj (cfg0.grid.coords t) y 2 : Fin 2304) := by
    funext a; match a with
    | ⟨0, _⟩ => exact Subsingleton.elim (α := Fin 1) _ _
    | ⟨1, _⟩ => rfl
    | ⟨2, _⟩ => rfl
  rw [hx]
  refine (out0_at V c t _ _).trans ?_
  have h0 : (y (0 : Fin 3) : ℕ) < 1 := ((cfg0.win 4).xinj (cfg0.grid.coords t) y (0 : Fin 3)).isLt
  have he : (win0_4.blk t).view.emb y = ix3 (bat t.val) ⟨(rowOf t.val ((cfg0.win 4).xinj (cfg0.grid.coords t) y 1)).val, by omega⟩
      ((cfg0.win 4).xinj (cfg0.grid.coords t) y 2) := by
    unfold bat rowOf
    blk_ext [(idx0 t).2.2.2.2]
  refine Eq.trans ?_ (congrArg (latAt V c) he).symm
  unfold latAt
  have hr : ∀ r : Fin 16384, (⟨r.val % 16384, Nat.mod_lt _ (by decide)⟩ : Fin 16384) = r :=
    fun r => Fin.ext (Nat.mod_eq_of_lt r.isLt)
  exact congrArg (fun q => dotAt (vX V c (bat t.val) q) _ _ _ _ _) (hr _).symm

theorem final1 (c : Dev nD) (i : S2x16640x2304.Idx) :
    (dat1 V c).arrAt 4 cfg1.N i = if 64 ≤ (i 1 : ℕ) / 256 then ctxAt V c i else V c main_v10 i := by
  refine ((dat1 V c).arrAt_apply_of_coversWhere 4 (ctxAt V c) (P := fun i => 64 ≤ (i 1 : ℕ) / 256)
    (fun β => 64 ≤ β (1 : Fin 3)) (by decide +kernel) (fun t hf y => ?_) (fun j => Iff.rfl) i)
  have hN := lt_N1 t
  blk_simp
  rw [after1_4]
  have hx : y = ix3 (0 : Fin 1) (y 1 : Fin 256) (y 2 : Fin 2304) := by
    funext a; match a with
    | ⟨0, _⟩ => exact Subsingleton.elim (α := Fin 1) _ _
    | ⟨1, _⟩ => rfl
    | ⟨2, _⟩ => rfl
  refine (congrArg (outsAt1 V c t) hx).trans ?_
  refine (out1_at V c t _ _).trans ?_
  have h1 : (y (1 : Fin 3) : ℕ) < 256 := ((cfg1.win 4).xinj (cfg1.grid.coords t) y (1 : Fin 3)).isLt
  have he : (win1_4.blk t).view.emb y = ix3 (bat1 t.val) ⟨16384 + (y (1 : Fin 3) : ℕ), by omega⟩
      (y 2) := by
    unfold bat1
    blk_ext [(idx1 t).2.2.2.2]
  refine Eq.trans ?_ (congrArg (ctxAt V c) he).symm
  unfold ctxAt
  have hr : ∀ r : Fin 256, (⟨(16384 + r.val) % 256, Nat.mod_lt _ (by decide)⟩ : Fin 256) = r :=
    fun r => Fin.ext (by have := r.isLt; show (16384 + r.val) % 256 = r.val; omega)
  exact congrArg (fun q => dotAt (vC V c (bat1 t.val) q) _ _ _ _ _) (hr _).symm

end Blocks

/-! ## The arguments, and the buffers the host prepares from them -/

variable (m : (ℓ : Loc nD τ sig) → Buf (Elt Ideal) ℓ) (ρ : Dev nD → PrngReg)

def aX (c : Dev nD) (b : Fin 2) (l : Fin 16384) (d : Fin 2048) : EReal := m ((c.tc : Thread nD τ).loc main_arg0) (ix3 b l d)
def aC (c : Dev nD) (b : Fin 2) (l : Fin 256) (d : Fin 2048) : EReal := m ((c.tc : Thread nD τ).loc main_arg1) (ix3 b l d)
def aMl (c : Dev nD) (b : Fin 2) (k : Fin 6) (d : Fin 2048) : EReal := m ((c.tc : Thread nD τ).loc main_arg2) (ix3 b k d)
def aMc (c : Dev nD) (b : Fin 2) (k : Fin 6) (d : Fin 2048) : EReal := m ((c.tc : Thread nD τ).loc main_arg3) (ix3 b k d)
def aG (c : Dev nD) (d : Fin 2048) : EReal := m ((c.tc : Thread nD τ).loc main_arg4) (ix1 d)
def aW (c : Dev nD) (d : Fin 2048) (n : Fin 2112) : EReal := m ((c.tc : Thread nD τ).loc main_arg5) (ix2 d n)

/-- A row of 2112 entries with its last 32 again, the 32 before those again, and zeros. -/
def padded (w : Fin 2112 → EReal) (n : Fin 2304) : EReal :=
  if h : n.val < 2112 then w ⟨n.val, h⟩
  else if h : n.val < 2144 then w ⟨n.val - 32, by omega⟩
  else if h : n.val < 2176 then w ⟨n.val - 96, by omega⟩
  else 0

/-- The weights as the host pads them: the rotary key's two halves again, swapped, and 128 columns of zeros. -/
def wPad (w : FVec Ideal S2048x2112 .f32) : FVec Ideal S2048x2304 .bf16 :=
  truncf (F := Ideal) .bf16 (concatenate S2048x2304 1
    [⟨S2048x2048, extractStridedSlice S2048x2048 ![0, 0] w slices_S2048x2112_S2048x2048_0_0⟩,
     ⟨S2048x32, extractStridedSlice S2048x32 ![0, 0] (extractStridedSlice S2048x64 ![0, 2048] w slices_S2048x2112_S2048x64_0_2048) slices_S2048x64_S2048x32_0_0⟩,
     ⟨S2048x32, extractStridedSlice S2048x32 ![0, 32] (extractStridedSlice S2048x64 ![0, 2048] w slices_S2048x2112_S2048x64_0_2048) slices_S2048x64_S2048x32_0_32⟩,
     ⟨S2048x32, extractStridedSlice S2048x32 ![0, 32] (extractStridedSlice S2048x64 ![0, 2048] w slices_S2048x2112_S2048x64_0_2048) slices_S2048x64_S2048x32_0_32⟩,
     ⟨S2048x32, extractStridedSlice S2048x32 ![0, 0] (extractStridedSlice S2048x64 ![0, 2048] w slices_S2048x2112_S2048x64_0_2048) slices_S2048x64_S2048x32_0_0⟩,
     ⟨S2048x128, broadcastInDim S2048x128 ![] bcast_S_S2048x128 (constant (F := Ideal) S_ .f32 0x00000000#32)⟩]
    concatenates_S2048x2048_S2048x32_S2048x32_S2048x32_S2048x32_S2048x128_S2048x2304_d1) bitsLt_bf16_f32

/-- The six pieces of the padded row, one after another. -/
theorem pieces (f : Fin 2112 → EReal) (n : Fin 2304) :
    (if h : n.val < 2048 then f ⟨n.val, by omega⟩
    else if h : n.val - 2048 < 32 then f ⟨2048 + (n.val - 2048), by omega⟩
    else if h : n.val - 2048 - 32 < 32 then f ⟨2048 + (32 + (n.val - 2048 - 32)), by omega⟩
    else if h : n.val - 2048 - 32 - 32 < 32 then f ⟨2048 + (32 + (n.val - 2048 - 32 - 32)), by omega⟩
    else if h : n.val - 2048 - 32 - 32 - 32 < 32 then f ⟨2048 + (n.val - 2048 - 32 - 32 - 32), by omega⟩ else 0)
      = padded f n := by
  unfold padded
  split_ifs <;> first | omega | exact congrArg f (Fin.ext (by dsimp only; omega)) | rfl

theorem wPad_apply (w : FVec Ideal S2048x2112 .f32) (d : Fin 2048) (n : Fin 2304) :
    wPad w (ix2 d n) = padded (fun n => w (ix2 d n)) n := by
  pointwise [wPad]
  exact pieces (fun k => w (ix2 d k)) n

theorem V1_v6 (c : Dev nD) : V1 m ρ c main_v6 = wPad (m ((c.tc : Thread nD τ).loc main_arg5)) := by
  show StableHlo.after hostOps0 (StableHlo.launchContents m c) (Proc.devRef .tc main_v6) = _
  after_results_simp
  rfl

theorem V1_v7 (c : Dev nD) (d : Fin 2048) : vG0 (V1 m ρ) c d = aG m c d := by
  show StableHlo.after hostOps0 (StableHlo.launchContents m c) (Proc.devRef .tc main_v7) (ix2 0 d) = _
  unfold aG
  entry_read
  pointwise

theorem V3_v9 (c : Dev nD) (d : Fin 2048) : vG1 (V3 m ρ) c d = aG m c d := by
  show StableHlo.after hostOps1 (W2 m ρ c) (Proc.devRef .tc main_v9) (ix2 0 d) = _
  unfold aG
  entry_read
  rw [W2_args m ρ c main_arg4 (by decide)]
  pointwise

theorem V3_v10 (c : Dev nD) : V3 m ρ c main_v10 = (dat0 (V1 m ρ) c).arrAt 4 cfg0.N := by
  refine Eq.trans ?_ (W2_arr m ρ c 4)
  show StableHlo.after hostOps1 (W2 m ρ c) (Proc.devRef .tc main_v10) = _
  entry_read
  rfl

/-- A padded row of weights gives a padded row of sums. -/
theorem dotAt_padded (x g m0 m1 : Fin 2048 → EReal) (w : Fin 2048 → Fin 2112 → EReal) (n : Fin 2304) :
    dotAt x g m0 m1 (fun d => padded (w d)) n = padded (fun k => ∑ d, hid x g m0 m1 d * w d k) n := by
  unfold dotAt padded
  dsimp only
  split_ifs
  · rfl
  · rfl
  · rfl
  · exact Finset.sum_eq_zero fun d _ => mul_zero _

/-- One entry of the projection, before the padding columns. -/
def cell (c : Dev nD) (b : Fin 2) (l : Fin 16640) (k : Fin 2112) : EReal :=
  if h : l.val < 16384 then ∑ d, hid (aX m c b ⟨l.val, h⟩) (aG m c) (aMl m c b 0) (aMl m c b 1) d * aW m c d k
  else ∑ d, hid (aC m c b ⟨l.val - 16384, by omega⟩) (aG m c) (aMc m c b 0) (aMc m c b 1) d * aW m c d k

/-- What the kernel's result array ends holding. -/
def result (c : Dev nD) : FVec Ideal S2x16640x2304 .f32 := fun i => padded (cell m c (i 0) (i 1)) (i 2)

theorem vW1 (c : Dev nD) : vW (V1 m ρ) c = fun d => padded (aW m c d) := by
  funext d n
  unfold vW
  rw [V1_v6]
  exact wPad_apply _ d n

theorem vW3 (c : Dev nD) : vW (V3 m ρ) c = fun d => padded (aW m c d) := by
  have h : V3 m ρ c main_v6 = V1 m ρ c main_v6 :=
    (W3_of m ρ c main_v6 (by decide)).trans (W2_of m ρ c main_v6 (by decide))
  funext d n
  unfold vW
  rw [h, V1_v6]
  exact wPad_apply _ d n

theorem final (c : Dev nD) : (dat1 (V3 m ρ) c).arrAt 4 cfg1.N = result m c := by
  have hX : vX (V1 m ρ) c = aX m c := by
    unfold vX aX; rw [show V1 m ρ c main_arg0 = _ from W1_args m ρ c main_arg0 (by decide)]
  have hMl : vMl (V1 m ρ) c = aMl m c := by
    unfold vMl aMl; rw [show V1 m ρ c main_arg2 = _ from W1_args m ρ c main_arg2 (by decide)]
  have hC : vC (V3 m ρ) c = aC m c := by
    unfold vC aC; rw [show V3 m ρ c main_arg1 = _ from W3_args m ρ c main_arg1 (by decide)]
  have hMc : vMc (V3 m ρ) c = aMc m c := by
    unfold vMc aMc; rw [show V3 m ρ c main_arg3 = _ from W3_args m ρ c main_arg3 (by decide)]
  have hG0 : vG0 (V1 m ρ) c = aG m c := funext (V1_v7 m ρ c ·)
  have hG1 : vG1 (V3 m ρ) c = aG m c := funext (V3_v9 m ρ c ·)
  funext i
  have hb : (i 1 : ℕ) < 16640 := (i 1).isLt
  refine (final1 (V3 m ρ) c i).trans ?_
  unfold result
  by_cases hi : (i 1 : ℕ) < 16384
  · rw [if_neg (by omega), V3_v10, final0 _ _ _ (by omega)]
    unfold latAt
    rw [hX, hMl, hG0, vW1]
    refine (dotAt_padded _ _ _ _ _ (i 2 : Fin 2304)).trans ?_
    have hr : (⟨(i 1 : ℕ) % 16384, Nat.mod_lt _ (by decide)⟩ : Fin 16384) = ⟨(i 1 : ℕ), hi⟩ := Fin.ext (Nat.mod_eq_of_lt hi)
    rw [hr]
    refine congrArg (padded · (i 2)) (funext fun k => ?_)
    unfold cell
    split_ifs with h
    · rfl
    · exact absurd hi h
  · rw [if_pos (by omega)]
    unfold ctxAt
    rw [hC, hMc, hG1, vW3]
    refine (dotAt_padded _ _ _ _ _ (i 2 : Fin 2304)).trans ?_
    have hr : (⟨(i 1 : ℕ) % 256, Nat.mod_lt _ (by decide)⟩ : Fin 256) = ⟨(i 1 : ℕ) - 16384, by omega⟩ :=
      Fin.ext (show (i 1 : ℕ) % 256 = (i 1 : ℕ) - 16384 by omega)
    rw [hr]
    refine congrArg (padded · (i 2)) (funext fun k => ?_)
    unfold cell
    split_ifs with h
    · exact absurd h hi
    · rfl

end Cert.ProjCd
-- ==== Proof.ProjCdClaim.lean ====
/-
  The projection into the Fourier and attention mixers equals the plain norm, modulation and product over the extended reals, and the frames of the
  two programs.
-/
module

public import proofs.«01_k».proof.Defs
public import proofs.«01_k».proof.Proof.ProjCd
public import proofs.«01_k».proof.Proof.Gen.Kernel6.Frame
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import Idealize.ShloMosaic.Lib.Quiescent

@[expose] public section

noncomputable section

namespace Cert.ProjCdClaim

open Idealize.ShloMosaic Idealize.SL Idealize.SL.Sem Cert.ProjCd
open Cert.MlpValue (nrm hid)

instance : Cert.Kernel6.Facts := Cert.Kernel6.Gen.facts
instance : Cert.Kernel6Ideal.Facts := Cert.Kernel6Ideal.Gen.facts
instance : Cert.Reference6Ideal.Facts := Cert.Reference6Ideal.Gen.facts

theorem kernel_frame : Cert.quiescent_Kernel6 (hKernel6 := Cert.Kernel6.Gen.facts) :=
  fun m ρ _ => Cert.Kernel6.Gen.frame m ρ

theorem kernelIdeal_frame : Cert.quiescent_Kernel6Ideal (hKernel6Ideal := Cert.Kernel6Ideal.Gen.facts) :=
  fun m ρ _ => Cert.Kernel6Ideal.Gen.frame m ρ

theorem reference_frame : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run (F := Ideal) m ρ)

/-- The reference multiplies the norm's gain and the modulation one after the other: the same product. -/
theorem hid_eq (x g m0 m1 : Fin 2048 → EReal) (d : Fin 2048) :
    x d * nrm x * g d * (1 + m1 d) + m0 d = hid x g m0 m1 d := by
  unfold hid
  rw [mul_assoc (x d * nrm x)]

/-- The columns as the reference lays them out: the product, the rotary key's second half, its first half, zeros. -/
theorem parts (f : Fin 2112 → EReal) (n : Fin 2304) :
    (if h : n.val < 2112 then f ⟨n.val, h⟩
    else if h : n.val - 2112 < 32 then f ⟨2080 + (n.val - 2112), by omega⟩
    else if h : n.val - 2112 - 32 < 32 then f ⟨2048 + (n.val - 2112 - 32), by omega⟩ else 0)
      = padded f n := by
  unfold padded
  split_ifs <;> first | omega | exact congrArg f (Fin.ext (by dsimp only; omega)) | rfl

theorem algebraic : Cert.algebraic_Kernel6Ideal_Reference6Ideal
    (hKernel6Ideal := Cert.Kernel6Ideal.Gen.facts) (hReference6Ideal := Cert.Reference6Ideal.Gen.facts) := by
  intro m ρ m' ρ' _ hagree
  refine ⟨fun c => result m c, ?_, ?_⟩
  · refine (θ_run _ _ _).mono (fun _ h c => ⟨(h c).1.trans (final m ρ c), (h c).2⟩) (Cert.ProjCd.run (F := Ideal) m ρ)
  · refine (θ_run _ _ _).mono (fun _ h c => ⟨(h c).1.trans ?_, (h c).2⟩)
      (Cert.Reference6Ideal.Value.run (F := Ideal) m' ρ')
    obtain ⟨h0, h1, h2, h3, h4, h5⟩ := hagree c
    unfold Cert.Reference6Ideal.Value.res_main_v54
    rw [h0, h1, h2, h3, h4, h5]
    funext i
    have hi : i = ix3 (i 0 : Fin 2) (i 1 : Fin 16640) (i 2 : Fin 2304) := by
      funext a; match a with
      | ⟨0, _⟩ => rfl
      | ⟨1, _⟩ => rfl
      | ⟨2, _⟩ => rfl
    refine (congrArg _ hi).trans (Eq.trans ?_ (congrArg (result m c) hi).symm)
    generalize (i 0 : Fin 2) = b
    generalize (i 1 : Fin 16640) = l
    generalize (i 2 : Fin 2304) = n
    refine Eq.trans ?_ (parts (cell m c b l) n)
    unfold cell
    simp only [← hid_eq]
    unfold nrm
    pointwise
    rfl

end Cert.ProjCdClaim
-- ==== Proof.Modul.lean ====
/-
  The modulation table, read as a value over the extended reals.
-/
module

public import proofs.«01_k».proof.Proof.Gen.Kernel7Ideal.Value
public import Idealize.ShloMosaic.Lib.Pipeline.ValueKit
public import Idealize.ShloMosaic.Lib.Pipeline.Value
public import Idealize.ShloMosaic.Lib.Pointwise

@[expose] public section

set_option maxRecDepth 16384

noncomputable section

namespace Cert.Modul

open Idealize.ShloMosaic Idealize.SL Idealize.SL.Sem
open Cert.Kernel7Ideal Cert.Kernel7Ideal.Gen

variable (m : (ℓ : Loc nD τ sig) → Buf (Elt Ideal) ℓ)

/-- The block index of every window at every point of the grid. -/
theorem idx_all : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

theorem lt_N (t : Fin cfg0.N) : t.val < 12 := t.isLt

/-- The layer of a point. -/
def layer (t : ℕ) : Fin 2 := ⟨t / 6 % 2, by omega⟩
/-- The array column of column `n` of a point's block. -/
def colOf (t : ℕ) (n : Fin 2048) : Fin 12288 := ⟨t % 6 * 2048 + n.val, by omega⟩

/-- The conditioning vectors, one of each batch entry, the context's, and zeros. -/
def conds (x : FVec Ideal S2x2048 .f32) (y : FVec Ideal S2048 .f32) : FVec Ideal S8x2048 .f32 :=
  concatenate S8x2048 0
    [⟨S2x2048, x⟩, ⟨S1x2048, broadcastInDim S1x2048 ![1] bcast_S2048_S1x2048_1 y⟩,
     ⟨S5x2048, broadcastInDim S5x2048 ![] bcast_S_S5x2048 (constant (F := Ideal) S_ .f32 0x00000000#32)⟩]
    concatenates_S2x2048_S1x2048_S5x2048_S8x2048_d0

theorem V_v2 (c : Dev nD) : V m c main_v2 = conds (m (c.tc.loc main_arg0)) (m (c.tc.loc main_arg1)) := by
  show StableHlo.after hostOps0 (StableHlo.launchContents m c) (Proc.devRef .tc main_v2) = _
  after_results_simp
  rfl

/-- The arguments, by rows: a conditioning vector, a layer's column of weights, its bias. -/
def aC (c : Dev nD) (r : Fin 8) (j : Fin 2048) : EReal := conds (m (c.tc.loc main_arg0)) (m (c.tc.loc main_arg1)) (ix2 r j)
def aW (c : Dev nD) (l : Fin 2) (n : Fin 12288) (j : Fin 2048) : EReal := m (c.tc.loc main_arg2) (ix3 l j n)
def aB (c : Dev nD) (l : Fin 2) (n : Fin 12288) : EReal := m (c.tc.loc main_arg3) (ix2 l n)

theorem aC_eq (c : Dev nD) (r : Fin 8) (j : Fin 2048) :
    aC m c r j = if h : r.val < 2 then m (c.tc.loc main_arg0) (ix2 (⟨r.val, h⟩ : Fin 2) j)
      else if h : r.val - 2 < 1 then m (c.tc.loc main_arg1) (ix1 j) else (0 : EReal) := by
  unfold aC
  pointwise [conds]

theorem blk0 (c : Dev nD) (t : Fin cfg0.N) (r : Fin 8) (j : Fin 2048) : iblk m c 0 t (ix2 r j) = aC m c r j := by
  have := lt_N t
  unfold aC
  rw [← V_v2]
  blk_ext [iblk, (idx_all t).1]

theorem blk1 (c : Dev nD) (t : Fin cfg0.N) (j n : Fin 2048) :
    iblk m c 1 t (ix3 0 j n) = aW m c (layer t.val) (colOf t.val n) j := by
  have := lt_N t
  unfold aW layer colOf
  blk_simp [iblk, (idx_all t).2.1]
  entry_read
  blk_ext [(idx_all t).2.1]

theorem blk2 (c : Dev nD) (t : Fin cfg0.N) (n : Fin 2048) :
    iblk m c 2 t (ix3 0 0 n) = aB m c (layer t.val) (colOf t.val n) := by
  have := lt_N t
  unfold aB layer colOf
  blk_simp [iblk, (idx_all t).2.2.1]
  entry_read
  pointwise
  blk_ext [(idx_all t).2.2.1]

/-- One entry of the table: a conditioning vector times its logistic, against a column, plus the bias. -/
def cell (c : Dev nD) (l : Fin 2) (r : Fin 8) (n : Fin 12288) : EReal :=
  (∑ j, aC m c r j * Ideal.logistic (aC m c r j) * aW m c l n j) + aB m c l n

theorem out_at (c : Dev nD) (t : Fin cfg0.N) (r : Fin 8) (n : Fin 2048) :
    out0_3 (iblk m c 0 t) (iblk m c 1 t) (iblk m c 2 t) (ix3 0 r n) = cell m c (layer t.val) r (colOf t.val n) := by
  frame_out
  unfold cell
  simp only [← blk0 m c t, ← blk1 m c t, ← blk2 m c t]
  pointwise [k0_pay1]

/-- What the kernel's result array ends holding. -/
def result (c : Dev nD) : Vec Ideal S2x8x12288 .f32 := fun i => cell m c (i 0) (i 1) (i 2)

theorem final (c : Dev nD) : (dats m 0 c).arrAt 3 cfg0.N = result m c := by
  refine (dats m 0 c).arrAt_eq_of_covers 3 _ (by decide +kernel) fun t hf y => ?_
  have hN := lt_N t
  blk_simp
  rw [after0_3]
  have hy : y = ix3 (0 : Fin 1) (y 1 : Fin 8) (y 2 : Fin 2048) := by
    funext a; match a with
    | ⟨0, _⟩ => exact Subsingleton.elim (α := Fin 1) _ _
    | ⟨1, _⟩ => rfl
    | ⟨2, _⟩ => rfl
  rw [hy]
  refine (out_at m c t (y 1) (y 2)).trans ?_
  have he : (win0_3.blk t).view.emb (ix3 (0 : Fin 1) (y 1 : Fin 8) (y 2 : Fin 2048))
      = ix3 (layer t.val) (y 1 : Fin 8) (colOf t.val (y 2)) := by
    unfold layer colOf
    blk_ext [(idx_all t).2.2.2]
  exact (congrArg (result m c) he).symm

end Cert.Modul
-- ==== Proof.ModulClaim.lean ====
/-
  The modulation kernel equals the plain products of the conditioning vectors over the extended reals, and the frames of the
  two programs.
-/
module

public import proofs.«01_k».proof.Defs
public import proofs.«01_k».proof.Proof.Modul
public import proofs.«01_k».proof.Proof.Gen.Kernel7.Frame
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import Idealize.ShloMosaic.Lib.Quiescent

@[expose] public section

noncomputable section

namespace Cert.ModulClaim

open Idealize.ShloMosaic Idealize.SL Idealize.SL.Sem Cert.Modul

instance : Cert.Kernel7.Facts := Cert.Kernel7.Gen.facts
instance : Cert.Kernel7Ideal.Facts := Cert.Kernel7Ideal.Gen.facts
instance : Cert.Reference7Ideal.Facts := Cert.Reference7Ideal.Gen.facts

theorem kernel_frame : Cert.quiescent_Kernel7 (hKernel7 := Cert.Kernel7.Gen.facts) :=
  fun m ρ _ => Cert.Kernel7.Gen.frame m ρ

theorem kernelIdeal_frame : Cert.quiescent_Kernel7Ideal (hKernel7Ideal := Cert.Kernel7Ideal.Gen.facts) :=
  fun m ρ _ => Cert.Kernel7Ideal.Gen.frame m ρ

theorem reference_frame : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run (F := Ideal) m ρ)

/-- A layer's product is the one of the two that its place in the stack picks. -/
theorem layer_pick (f : Fin 2048 → EReal) (w : Fin 2 → Fin 2048 → EReal) (b : Fin 2 → EReal) (l : Fin 2) :
    (if _h : l.val < 1 then ∑ j, f j * Ideal.div 1 (1 + Ideal.exp (-f j)) * w 0 j + b 0
    else ∑ j, f j * Ideal.div 1 (1 + Ideal.exp (-f j)) * w 1 j + b 1)
      = ∑ j, f j * Ideal.logistic (f j) * w l j + b l := by
  match l with
  | 0 => rfl
  | 1 => rfl

theorem algebraic : Cert.algebraic_Kernel7Ideal_Reference7Ideal
    (hKernel7Ideal := Cert.Kernel7Ideal.Gen.facts) (hReference7Ideal := Cert.Reference7Ideal.Gen.facts) := by
  intro m ρ m' ρ' _ hagree
  refine ⟨fun c => result m c, ?_, ?_⟩
  · refine (θ_run _ _ _).mono (fun _ h c => ⟨(h c).1.trans (final m c), (h c).2⟩)
      (Cert.Kernel7Ideal.Value.run_blocks (F := Ideal) m ρ)
  · refine (θ_run _ _ _).mono (fun _ h c => ⟨(h c).1.trans ?_, (h c).2⟩)
      (Cert.Reference7Ideal.Value.run (F := Ideal) m' ρ')
    obtain ⟨h0, h1, h2, h3⟩ := hagree c
    rw [h0, h1, h2, h3]
    funext i
    have hi : i = ix3 (i 0 : Fin 2) (i 1 : Fin 8) (i 2 : Fin 12288) := by
      funext a; match a with
      | ⟨0, _⟩ => rfl
      | ⟨1, _⟩ => rfl
      | ⟨2, _⟩ => rfl
    refine (congrArg _ hi).trans (Eq.trans ?_ (congrArg (result m c) hi).symm)
    generalize (i 0 : Fin 2) = l
    generalize (i 1 : Fin 8) = r
    generalize (i 2 : Fin 12288) = n
    refine Eq.trans ?_ (show cell m c l r n = _ from rfl)
    unfold cell
    pointwise
    exact Eq.trans (layer_pick (fun j => if h : r.val < 2 then m (c.tc.loc Cert.Kernel7Ideal.main_arg0) (ix2 (⟨r.val, h⟩ : Fin 2) j)
      else if h : r.val - 2 < 1 then m (c.tc.loc Cert.Kernel7Ideal.main_arg1) (ix1 j) else (0 : EReal))
      (fun l j => aW m c l n j) (fun l => aB m c l n) l)
      (congrArg (· + _) (Finset.sum_congr rfl fun j _ =>
        congrArg (fun z : EReal => z * Ideal.logistic z * aW m c l n j) (aC_eq m c r j).symm))

end Cert.ModulClaim
-- ==== Proof.RopeSpec.lean ====
/-
  The attention's normed, projected and rotated rows as functions of extended reals: what the query and the key kernels and
  the plain reference compute.
-/
module

public import Idealize.ShloMosaic.Lib.Pointwise
public import Idealize.ShloMosaic.Lib.Pipeline.Value

@[expose] public section

noncomputable section

namespace Cert.Rope

open Idealize.ShloMosaic

/-- A row of 512, root-mean-square normed, times its gain. -/
def hat (x g : Fin 512 → EReal) (j : Fin 512) : EReal :=
  x j * Ideal.rsqrt (Ideal.div (∑ e, x e * x e) (Ideal.ofBits .f32 1140850688#32) + Ideal.ofBits .f32 897988541#32) * g j

/-- The normed row against one column of weights. -/
def dot (x g w : Fin 512 → EReal) : EReal := ∑ j, hat x g j * w j

/-- Two halves of 32 rotated by the angles of a position. -/
def rot (f : Fin 64 → EReal) (co si : Fin 32 → EReal) (u : Fin 64) : EReal :=
  if h : u.val < 32 then f u * co ⟨u.val, h⟩ - f ⟨u.val + 32, by omega⟩ * si ⟨u.val, h⟩
  else f u * co ⟨u.val - 32, by omega⟩ + f ⟨u.val - 32, by omega⟩ * si ⟨u.val - 32, by omega⟩

/-- The two halves followed by the two halves swapped: how the kernels lay out what they rotate. -/
def twice (f : Fin 64 → EReal) (v : Fin 128) : EReal :=
  if h : v.val < 64 then f ⟨v.val, h⟩
  else if h' : v.val < 96 then f ⟨v.val - 32, by omega⟩
  else f ⟨v.val - 96, by omega⟩

/-- The table of a position's angles: cosines twice, sines negated, sines. -/
def table (co si : Fin 32 → EReal) (v : Fin 128) : EReal :=
  if h : v.val < 32 then co ⟨v.val, h⟩
  else if h' : v.val < 64 then co ⟨v.val - 32, by omega⟩
  else if h'' : v.val < 96 then -si ⟨v.val - 64, by omega⟩
  else si ⟨v.val - 96, by omega⟩

/-- The table from its four pieces, one after another. -/
theorem table_pieces (co si : Fin 32 → EReal) (v : Fin 128) :
    (if h : v.val < 32 then co ⟨v.val, h⟩
    else if h : v.val - 32 < 32 then co ⟨v.val - 32, h⟩
    else if h : v.val - 32 - 32 < 32 then -si ⟨v.val - 32 - 32, h⟩
    else si ⟨v.val - 32 - 32 - 32, by omega⟩) = table co si v := by
  unfold table
  split_ifs <;> first
    | omega
    | exact congrArg co (Fin.ext (by dsimp only; omega))
    | exact congrArg si (Fin.ext (by dsimp only; omega))
    | exact congrArg (fun i => -si i) (Fin.ext (by dsimp only; omega))
    | rfl

/-- The product with the table plus itself 64 lanes on is the rotation. -/
theorem roll_eq (f : Fin 64 → EReal) (co si : Fin 32 → EReal) (u : Fin 64) :
    twice f ⟨u.val, by omega⟩ * table co si ⟨u.val, by omega⟩
      + twice f ⟨u.val + 64, by omega⟩ * table co si ⟨u.val + 64, by omega⟩ = rot f co si u := by
  have hu := u.isLt
  unfold twice table rot
  by_cases h : u.val < 32
  · simp only [h, hu, dif_pos, dif_neg (show ¬u.val + 64 < 64 by omega), dif_neg (show ¬u.val + 64 < 32 by omega),
      dif_pos (show u.val + 64 < 96 by omega), mul_neg, ← sub_eq_add_neg]
    rfl
  · simp only [h, hu, dif_pos, dif_neg (show ¬u.val + 64 < 64 by omega), dif_neg (show ¬u.val + 64 < 32 by omega),
      dif_neg (show ¬u.val + 64 < 96 by omega), dif_neg h, not_false_eq_true, dif_neg]
    rfl

/-- The comparison of a lane's number with 64, on lanes below 128. -/
theorem lane_lt (a : ℕ) (ha : a < 128) (x y : EReal) :
    Scalar.select (IntOp.cmpi CmpIPredicate.slt (BitVec.ofNat 32 a) 64#32) x y = if a < 64 then x else y := by
  have h : ∀ a : Fin 128, IntOp.cmpi CmpIPredicate.slt (BitVec.ofNat 32 a.val) 64#32 = if a.val < 64 then 1#1 else 0#1 := by
    decide
  rw [h ⟨a, ha⟩]
  dsimp only
  split_ifs <;> rfl

end Cert.Rope
-- ==== Proof.Quer.lean ====
/-
  The attention's queries, read as a value over the extended reals.
-/
module

public import proofs.«01_k».proof.Proof.Gen.Kernel8Ideal.Value
public import proofs.«01_k».proof.Proof.RopeSpec
public import Idealize.ShloMosaic.Lib.Pipeline.ValueKit
public import Idealize.ShloMosaic.Lib.Pipeline.Value
public import Idealize.ShloMosaic.Lib.Pointwise

@[expose] public section

set_option maxRecDepth 16384

noncomputable section

namespace Cert.Quer

open Idealize.ShloMosaic Idealize.SL Idealize.SL.Sem
open Cert.Kernel8Ideal Cert.Kernel8Ideal.Gen
open Cert.Rope

variable (m : (ℓ : Loc nD τ sig) → Buf (Elt Ideal) ℓ)

/-- The block index of every window at every point of the grid. -/
theorem idx_all : ∀ t : Fin cfg0.N, win0_0.index t = ![t.val / 16, t.val % 16, 2] ∧ win0_1.index t = ![0, 0]
    ∧ win0_2.index t = ![0, 0, 0] ∧ win0_3.index t = ![t.val % 16, 0] ∧ win0_4.index t = ![t.val / 16, 0, 0, t.val % 16] :=
  (by decide +kernel : ∀ t : Fin grid0.N, _)

theorem lt_N (t : Fin cfg0.N) : t.val < 32 := t.isLt

/-- The batch entry of a point. -/
def bat (t : ℕ) : Fin 2 := ⟨t / 16 % 2, by omega⟩
/-- The array row of row `r` of a point's block. -/
def rowOf (t : ℕ) (r : Fin 1024) : Fin 16384 := ⟨t % 16 * 1024 + r.val, by omega⟩

/-- The arguments, by rows: the compressed queries, their gain, a head's weights by columns, and the angles. -/
def aX (c : Dev nD) (b : Fin 2) (l : Fin 16384) (j : Fin 512) : EReal :=
  m (c.tc.loc main_arg0) (ix3 b (⟨l.val, by omega⟩ : Fin 16640) (⟨1024 + j.val, by omega⟩ : Fin 2112))
def aG (c : Dev nD) (j : Fin 512) : EReal := m (c.tc.loc main_arg1) (ix1 j)
def aW (c : Dev nD) (h : Fin 8) (n : Fin 192) (j : Fin 512) : EReal :=
  m (c.tc.loc main_arg2) (ix2 j (⟨h.val * 192 + n.val, by omega⟩ : Fin 1536))
def aC (c : Dev nD) (l : Fin 16384) (u : Fin 32) : EReal := m (c.tc.loc main_arg3) (ix2 (⟨l.val, by omega⟩ : Fin 16640) u)
def aS (c : Dev nD) (l : Fin 16384) (u : Fin 32) : EReal := m (c.tc.loc main_arg4) (ix2 (⟨l.val, by omega⟩ : Fin 16640) u)

/-! ## What the host hands the kernel -/

/-- The projection's array with the rotary key's halves again, swapped, and zeros. -/
def wide (p : FVec Ideal S2x16640x2112 .f32) : FVec Ideal S2x16640x2304 .f32 :=
  concatenate S2x16640x2304 2
    [⟨S2x16640x2112, p⟩,
     ⟨S2x16640x32, extractStridedSlice S2x16640x32 ![0, 0, 2080] p slices_S2x16640x2112_S2x16640x32_0_0_2080⟩,
     ⟨S2x16640x32, extractStridedSlice S2x16640x32 ![0, 0, 2048] p slices_S2x16640x2112_S2x16640x32_0_0_2048⟩,
     ⟨S2x16640x128, broadcastInDim S2x16640x128 ![] bcast_S_S2x16640x128 (constant (F := Ideal) S_ .f32 0x00000000#32)⟩]
    concatenates_S2x16640x2112_S2x16640x32_S2x16640x32_S2x16640x128_S2x16640x2304_d2

theorem V_v3 (c : Dev nD) : V m c main_v3 = wide (m (c.tc.loc main_arg0)) := by
  show StableHlo.after hostOps0 (StableHlo.launchContents m c) (Proc.devRef .tc main_v3) = _
  after_results_simp
  rfl

/-- The table of angles. -/
def angles (co si : FVec Ideal S16640x32 .f32) : FVec Ideal S16640x128 .f32 :=
  concatenate S16640x128 1
    [⟨S16640x32, co⟩, ⟨S16640x32, co⟩, ⟨S16640x32, Host.negf (F := Ideal) si⟩, ⟨S16640x32, si⟩]
    concatenates_S16640x32_S16640x32_S16640x32_S16640x32_S16640x128_d1

theorem V_v5 (c : Dev nD) : V m c main_v5 = angles (m (c.tc.loc main_arg3)) (m (c.tc.loc main_arg4)) := by
  show StableHlo.after hostOps0 (StableHlo.launchContents m c) (Proc.devRef .tc main_v5) = _
  after_results_simp
  rfl

/-- The weights by heads, each head's rotated columns again, swapped. -/
def heads (w : FVec Ideal S512x1536 .f32) : FVec Ideal S8x512x256 .bf16 :=
  truncf (F := Ideal) .bf16 (transpose S8x512x256 [1, 0, 2] (concatenate S512x8x256 2
    [⟨S512x8x128, extractStridedSlice S512x8x128 ![0, 0, 0] (shapeCast S512x8x192 w shapeCasts_S512x1536_S512x8x192) slices_S512x8x192_S512x8x128_0_0_0⟩,
     ⟨S512x8x32, extractStridedSlice S512x8x32 ![0, 0, 128] (shapeCast S512x8x192 w shapeCasts_S512x1536_S512x8x192) slices_S512x8x192_S512x8x32_0_0_128⟩,
     ⟨S512x8x32, extractStridedSlice S512x8x32 ![0, 0, 160] (shapeCast S512x8x192 w shapeCasts_S512x1536_S512x8x192) slices_S512x8x192_S512x8x32_0_0_160⟩,
     ⟨S512x8x32, extractStridedSlice S512x8x32 ![0, 0, 160] (shapeCast S512x8x192 w shapeCasts_S512x1536_S512x8x192) slices_S512x8x192_S512x8x32_0_0_160⟩,
     ⟨S512x8x32, extractStridedSlice S512x8x32 ![0, 0, 128] (shapeCast S512x8x192 w shapeCasts_S512x1536_S512x8x192) slices_S512x8x192_S512x8x32_0_0_128⟩]
    concatenates_S512x8x128_S512x8x32_S512x8x32_S512x8x32_S512x8x32_S512x8x256_d2) transposes_S512x8x256_S8x512x256_1_0_2) bitsLt_bf16_f32

theorem V_v12 (c : Dev nD) : V m c main_v12 = heads (m (c.tc.loc main_arg2)) := by
  show StableHlo.after hostOps0 (StableHlo.launchContents m c) (Proc.devRef .tc main_v12) = _
  after_results_simp
  rfl

theorem wide_apply (p : FVec Ideal S2x16640x2112 .f32) (b : Fin 2) (l : Fin 16640) (n : Fin 2304) (hn : n.val < 2112) :
    wide p (ix3 b l n) = p (ix3 b l (⟨n.val, hn⟩ : Fin 2112)) := by
  pointwise [wide]
  exact dif_pos hn

theorem angles_apply (co si : FVec Ideal S16640x32 .f32) (l : Fin 16640) (v : Fin 128) :
    angles co si (ix2 l v) = table (fun u => co (ix2 l u)) (fun u => si (ix2 l u)) v := by
  pointwise [angles]
  exact table_pieces (fun u => co (ix2 l u)) (fun u => si (ix2 l u)) v

/-- A head's columns as the kernel holds them. -/
def wideW (f : Fin 192 → EReal) (k : Fin 256) : EReal :=
  if h : k.val < 128 then f ⟨k.val, by omega⟩
  else twice (fun u => f ⟨128 + u.val, by omega⟩) ⟨k.val - 128, by omega⟩

/-- The five pieces of a head's columns, one after another. -/
theorem wideW_pieces (f : Fin 192 → EReal) (k : Fin 256) :
    (if h : k.val < 128 then f ⟨k.val, by omega⟩
    else if h : k.val - 128 < 32 then f ⟨128 + (k.val - 128), by omega⟩
    else if h : k.val - 128 - 32 < 32 then f ⟨160 + (k.val - 128 - 32), by omega⟩
    else if h : k.val - 128 - 32 - 32 < 32 then f ⟨160 + (k.val - 128 - 32 - 32), by omega⟩
    else f ⟨128 + (k.val - 128 - 32 - 32 - 32), by omega⟩) = wideW f k := by
  unfold wideW twice
  dsimp only
  split_ifs <;> first | omega | exact congrArg f (Fin.ext (by dsimp only; omega)) | rfl

theorem heads_apply (w : FVec Ideal S512x1536 .f32) (h : Fin 8) (j : Fin 512) (k : Fin 256) :
    heads w (ix3 h j k) = wideW (fun n => w (ix2 j (⟨h.val * 192 + n.val, by omega⟩ : Fin 1536))) k := by
  pointwise [heads]
  exact wideW_pieces (fun n => w (ix2 j (⟨h.val * 192 + n.val, by omega⟩ : Fin 1536))) k

theorem blk0 (c : Dev nD) (t : Fin cfg0.N) (r : Fin 1024) (j : Fin 512) :
    X0_0 m c t (ix3 0 r j) = aX m c (bat t.val) (rowOf t.val r) j := by
  have := lt_N t
  unfold X0_0 Pipeline.Window.fill
  rw [dif_pos (moved0_0 t _)]
  refine Eq.trans ?_ (wide_apply (m (c.tc.loc main_arg0)) (bat t.val) (⟨(rowOf t.val r).val, by omega⟩ : Fin 16640)
    (⟨1024 + j.val, by omega⟩ : Fin 2304) (by dsimp only; omega))
  rw [← V_v3]
  unfold bat rowOf
  blk_ext! [iblk, (idx_all t).1]

theorem blk1 (c : Dev nD) (t : Fin cfg0.N) (j : Fin 512) : iblk m c 1 t (ix2 0 j) = aG m c j := by
  have := lt_N t
  unfold aG
  blk_simp [iblk, (idx_all t).2.1]
  entry_read
  pointwise
  blk_ext [(idx_all t).2.1]

theorem blk2 (c : Dev nD) (t : Fin cfg0.N) (h : Fin 8) (j : Fin 512) (k : Fin 256) :
    iblk m c 2 t (ix3 h j k) = wideW (fun n => aW m c h n j) k := by
  have := lt_N t
  refine Eq.trans ?_ (heads_apply (m (c.tc.loc main_arg2)) h j k)
  rw [← V_v12]
  blk_ext [iblk, (idx_all t).2.2.1]

theorem blk3 (c : Dev nD) (t : Fin cfg0.N) (r : Fin 1024) (v : Fin 128) :
    X0_3 m c t (ix2 r v) = table (aC m c (rowOf t.val r)) (aS m c (rowOf t.val r)) v := by
  have := lt_N t
  unfold X0_3 Pipeline.Window.fill
  rw [dif_pos (moved0_3 t _)]
  refine Eq.trans ?_ (angles_apply (m (c.tc.loc main_arg3)) (m (c.tc.loc main_arg4)) (⟨(rowOf t.val r).val, by omega⟩ : Fin 16640) v)
  rw [← V_v5]
  unfold rowOf
  blk_ext [iblk, (idx_all t).2.2.2.1]

/-! ## One head's queries at a point -/

/-- One entry of a head's queries, before the scale: the plain columns, the rotated ones, zeros. -/
def query (x g : Fin 512 → EReal) (w : Fin 192 → Fin 512 → EReal) (co si : Fin 32 → EReal) (k : Fin 256) : EReal :=
  if h : k.val < 128 then dot x g (w ⟨k.val, by omega⟩)
  else if h' : k.val < 192 then rot (fun u => dot x g (w ⟨128 + u.val, by omega⟩)) co si ⟨k.val - 128, by omega⟩
  else 0

theorem dot_twice (x g : Fin 512 → EReal) (f : Fin 192 → Fin 512 → EReal) (v : Fin 128) :
    dot x g (fun j => wideW (fun n => f n j) ⟨128 + v.val, by omega⟩)
      = twice (fun u => dot x g (f ⟨128 + u.val, by omega⟩)) v := by
  have hv : ¬128 + v.val < 128 := by omega
  have e : (⟨128 + v.val - 128, by omega⟩ : Fin 128) = v := Fin.ext (by dsimp only; omega)
  unfold wideW
  simp only [dif_neg hv, e]
  unfold twice
  split_ifs <;> rfl

/-- What the kernel computes of a head is its query. -/
theorem query_eq (x g : Fin 512 → EReal) (f : Fin 192 → Fin 512 → EReal) (co si : Fin 32 → EReal) (k : Fin 256) :
    (if h : k.val < 128 then dot x g (fun j => wideW (fun n => f n j) k)
    else Scalar.select (IntOp.cmpi CmpIPredicate.slt (BitVec.ofNat 32 (k.val - 128)) 64#32)
      (dot x g (fun j => wideW (fun n => f n j) ⟨128 + (k.val - 128), by omega⟩) * table co si ⟨k.val - 128, by omega⟩
        + dot x g (fun j => wideW (fun n => f n j) ⟨128 + (k.val - 128 + 128 - 64) % 128, by omega⟩)
          * table co si ⟨(k.val - 128 + 128 - 64) % 128, by omega⟩) 0) = query x g f co si k := by
  unfold query
  by_cases h : k.val < 128
  · rw [dif_pos h, dif_pos h]
    unfold wideW
    simp only [dif_pos h]
  · rw [dif_neg h, dif_neg h, lane_lt _ (by omega)]
    by_cases h' : k.val < 192
    · rw [if_pos (by omega), dif_pos h', ← roll_eq]
      have e : (k.val - 128 + 128 - 64) % 128 = k.val - 128 + 64 := by omega
      simp only [e]
      rw [← dot_twice, ← dot_twice]
    · rw [if_neg (by omega), dif_neg h']

theorem head_at (x0 : FVec Ideal S1x1024x512 .f32) (x1 : FVec Ideal S1x512 .f32) (w : FVec Ideal S1x512x256 .bf16)
    (x3 : FVec Ideal S1024x128 .f32) (f : Fin 192 → Fin 512 → EReal) (co si : Fin 32 → EReal) (k : Fin 256) (r : Fin 1024)
    (hw : ∀ j k, w (ix3 0 j k) = wideW (fun n => f n j) k) (h3 : ∀ v, x3 (ix2 r v) = table co si v) :
    k0_pay6 (F := Ideal) (k0_pay2 x0 x1) (k0_pay3 x3) w (ix4 0 0 k r)
      = query (fun j => x0 (ix3 0 r j)) (fun j => x1 (ix2 0 j)) f co si k * Ideal.ofBits .f32 1037384597#32 := by
  pointwise [k0_pay6, k0_pay2, k0_pay3]
  refine congrArg (· * _) ?_
  simp only [hw, h3]
  exact query_eq (fun j => x0 (ix3 0 r j)) (fun j => x1 (ix2 0 j)) f co si k

theorem out_at (c : Dev nD) (t : Fin cfg0.N) (h : Fin 8) (k : Fin 256) (r : Fin 1024) :
    outsAt0 m c t (ix4 0 h k r)
      = query (aX m c (bat t.val) (rowOf t.val r)) (aG m c) (aW m c h) (aC m c (rowOf t.val r)) (aS m c (rowOf t.val r)) k
        * Ideal.ofBits .f32 1037384597#32 := by
  have hX : ∀ j, X0_0 m c t (ix3 0 r j) = aX m c (bat t.val) (rowOf t.val r) j := fun j => blk0 m c t r j
  have key : ∀ (x : S1x1x256x1024.Idx) (w : FVec Ideal S1x512x256 .bf16), (k : ℕ) = (x 2 : ℕ) → (r : ℕ) = (x 3 : ℕ) →
      (∀ j k, w (ix3 0 j k) = iblk m c 2 t (ix3 h j k)) →
      k0_pay6 (F := Ideal) (k0_pay2 (X0_0 m c t) (iblk m c 1 t)) (k0_pay3 (X0_3 m c t)) w x
        = query (aX m c (bat t.val) (rowOf t.val r)) (aG m c) (aW m c h) (aC m c (rowOf t.val r)) (aS m c (rowOf t.val r)) k
          * Ideal.ofBits .f32 1037384597#32 := by
    intro x w hk hr hw
    have hx : x = ix4 (0 : Fin 1) (0 : Fin 1) k r := by
      funext a; match a with
      | ⟨0, _⟩ => exact Subsingleton.elim (α := Fin 1) _ _
      | ⟨1, _⟩ => exact Subsingleton.elim (α := Fin 1) _ _
      | ⟨2, _⟩ => exact Fin.ext hk.symm
      | ⟨3, _⟩ => exact Fin.ext hr.symm
    rw [hx]
    refine (head_at _ _ w _ (aW m c h) (aC m c (rowOf t.val r)) (aS m c (rowOf t.val r)) k r
      (fun j k => (hw j k).trans (blk2 m c t h j k)) (fun v => blk3 m c t r v)).trans ?_
    rw [show (fun j => X0_0 m c t (ix3 0 r j)) = aX m c (bat t.val) (rowOf t.val r) from funext hX,
      show (fun j => iblk m c 1 t (ix2 0 j)) = aG m c from funext (blk1 m c t)]
  unfold outsAt0
  frame_out
  canon_tiles x e
  all_goals
    refine (key x _ e2 e3 (fun j k => ?_))
    refine View.ld_unit_apply_of _ _ _ _ _ _ fun a => ?_
    match a with
    | ⟨0, _⟩ =>
      have z : (x 1 : ℕ) = 0 := by omega
      first
        | exact Eq.trans (b := _ + (x 1 : ℕ)) e1 (congrArg (_ + ·) z)
        | exact Eq.trans e1 z
    | ⟨1, _⟩ => show (j : ℕ) = 0 + (j : ℕ); omega
    | ⟨2, _⟩ => show (k : ℕ) = 0 + (k : ℕ); omega

/-- One entry of the result. -/
def cell (c : Dev nD) (b : Fin 2) (h : Fin 8) (k : Fin 256) (l : Fin 16384) : EReal :=
  query (aX m c b l) (aG m c) (aW m c h) (aC m c l) (aS m c l) k * Ideal.ofBits .f32 1037384597#32

/-- What the kernel's result array ends holding. -/
def result (c : Dev nD) : Vec Ideal S2x8x256x16384 .bf16 := fun i => cell m c (i 0) (i 1) (i 2) (i 3)

theorem final (c : Dev nD) : (dats m 0 c).arrAt 4 cfg0.N = result m c := by
  refine (dats m 0 c).arrAt_eq_of_covers 4 _ (by decide +kernel) fun t hf y => ?_
  have hN := lt_N t
  blk_simp
  rw [after0_4]
  have hy : y = ix4 (0 : Fin 1) (y 1 : Fin 8) (y 2 : Fin 256) (y 3 : Fin 1024) := by
    funext a; match a with
    | ⟨0, _⟩ => exact Subsingleton.elim (α := Fin 1) _ _
    | ⟨1, _⟩ => rfl
    | ⟨2, _⟩ => rfl
    | ⟨3, _⟩ => rfl
  rw [hy]
  refine (out_at m c t (y 1) (y 2) (y 3)).trans ?_
  have he : (win0_4.blk t).view.emb (ix4 (0 : Fin 1) (y 1 : Fin 8) (y 2 : Fin 256) (y 3 : Fin 1024))
      = ix4 (bat t.val) (y 1 : Fin 8) (y 2 : Fin 256) (rowOf t.val (y 3)) := by
    unfold bat rowOf
    blk_ext [(idx_all t).2.2.2.2]
  exact (congrArg (result m c) he).symm

end Cert.Quer
-- ==== Proof.QuerClaim.lean ====
/-
  The query kernel equals the plain norm, projection, rotation and scale over the extended reals, and the frames of the two
  programs.
-/
module

public import proofs.«01_k».proof.Defs
public import proofs.«01_k».proof.Proof.Quer
public import proofs.«01_k».proof.Proof.Gen.Kernel8.Frame
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import Idealize.ShloMosaic.Lib.Quiescent

@[expose] public section

noncomputable section

namespace Cert.QuerClaim

open Idealize.ShloMosaic Idealize.SL Idealize.SL.Sem Cert.Quer
open Cert.Rope

instance : Cert.Kernel8.Facts := Cert.Kernel8.Gen.facts
instance : Cert.Kernel8Ideal.Facts := Cert.Kernel8Ideal.Gen.facts
instance : Cert.Reference8Ideal.Facts := Cert.Reference8Ideal.Gen.facts

theorem kernel_frame : Cert.quiescent_Kernel8 (hKernel8 := Cert.Kernel8.Gen.facts) :=
  fun m ρ _ => Cert.Kernel8.Gen.frame m ρ

theorem kernelIdeal_frame : Cert.quiescent_Kernel8Ideal (hKernel8Ideal := Cert.Kernel8Ideal.Gen.facts) :=
  fun m ρ _ => Cert.Kernel8Ideal.Gen.frame m ρ

theorem reference_frame : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩) (Cert.Reference8Ideal.Value.run (F := Ideal) m ρ)

/-- The query with its columns counted through the reference's slices and pieces. -/
theorem query_ref (x g : Fin 512 → EReal) (w : Fin 192 → Fin 512 → EReal) (co si : Fin 32 → EReal) (k : Fin 256) :
    query x g w co si k
      = if h : k.val < 128 then dot x g (w ⟨k.val, by omega⟩)
        else if h : k.val - 128 < 64 then
          if h : k.val - 128 < 32 then
            dot x g (w ⟨128 + (k.val - 128), by omega⟩) * co ⟨k.val - 128, h⟩
              - dot x g (w ⟨128 + (32 + (k.val - 128)), by omega⟩) * si ⟨k.val - 128, h⟩
          else
            dot x g (w ⟨128 + (32 + (k.val - 128 - 32)), by omega⟩) * co ⟨k.val - 128 - 32, by omega⟩
              + dot x g (w ⟨128 + (k.val - 128 - 32), by omega⟩) * si ⟨k.val - 128 - 32, by omega⟩
        else 0 := by
  unfold query rot
  by_cases h : k.val < 128
  · rw [dif_pos h, dif_pos h]
  · rw [dif_neg h, dif_neg h]
    by_cases h' : k.val < 192
    · rw [dif_pos h', dif_pos (show k.val - 128 < 64 by omega)]
      by_cases h'' : k.val - 128 < 32
      · rw [dif_pos h'', dif_pos h'']
        simp only [Nat.add_comm 32]
      · have e : 32 + (k.val - 128 - 32) = k.val - 128 := by omega
        rw [dif_neg h'', dif_neg h'']
        simp only [e]
    · rw [dif_neg h', dif_neg (show ¬k.val - 128 < 64 by omega)]

theorem algebraic : Cert.algebraic_Kernel8Ideal_Reference8Ideal
    (hKernel8Ideal := Cert.Kernel8Ideal.Gen.facts) (hReference8Ideal := Cert.Reference8Ideal.Gen.facts) := by
  intro m ρ m' ρ' _ hagree
  refine ⟨fun c => result m c, ?_, ?_⟩
  · refine (θ_run _ _ _).mono (fun _ h c => ⟨(h c).1.trans (final m c), (h c).2⟩)
      (Cert.Kernel8Ideal.Value.run_blocks (F := Ideal) m ρ)
  · refine (θ_run _ _ _).mono (fun _ h c => ⟨(h c).1.trans ?_, (h c).2⟩)
      (Cert.Reference8Ideal.Value.run (F := Ideal) m' ρ')
    obtain ⟨h0, h1, h2, h3, h4⟩ := hagree c
    unfold Cert.Reference8Ideal.Value.res_main_v44
    rw [h0, h1, h2, h3, h4]
    funext i
    have hi : i = ix4 (i 0 : Fin 2) (i 1 : Fin 8) (i 2 : Fin 256) (i 3 : Fin 16384) := by
      funext a; match a with
      | ⟨0, _⟩ => rfl
      | ⟨1, _⟩ => rfl
      | ⟨2, _⟩ => rfl
      | ⟨3, _⟩ => rfl
    refine (congrArg _ hi).trans (Eq.trans ?_ (congrArg (result m c) hi).symm)
    generalize (i 0 : Fin 2) = b
    generalize (i 1 : Fin 8) = h
    generalize (i 2 : Fin 256) = k
    generalize (i 3 : Fin 16384) = l
    refine Eq.trans ?_ (show cell m c b h k l = _ from rfl)
    unfold cell
    pointwise
    exact congrArg (· * _) (query_ref (aX m c b l) (aG m c) (aW m c h) (aC m c l) (aS m c l) k).symm

end Cert.QuerClaim
-- ==== Proof.KeyVal.lean ====
/-
  The attention's keys and values, read as values over the extended reals.
-/
module

public import proofs.«01_k».proof.Proof.Gen.Kernel9Ideal.Value
public import proofs.«01_k».proof.Proof.RopeSpec
public import Idealize.ShloMosaic.Lib.Pipeline.ValueKit
public import Idealize.ShloMosaic.Lib.Pipeline.Value
public import Idealize.ShloMosaic.Lib.Pointwise

@[expose] public section

set_option maxRecDepth 16384

noncomputable section

namespace Cert.KeyVal

open Idealize.ShloMosaic Idealize.SL Idealize.SL.Sem
open Cert.Kernel9Ideal Cert.Kernel9Ideal.Gen
open Cert.Rope

variable (m : (ℓ : Loc nD τ sig) → Buf (Elt Ideal) ℓ)

/-- The block index of every window at every point of the grid. -/
theorem idx_all : ∀ t : Fin cfg0.N, win0_0.index t = ![t.val / 13, t.val % 13, 3] ∧ win0_1.index t = ![t.val / 13, t.val % 13, 16]
    ∧ win0_2.index t = ![0, 0] ∧ win0_3.index t = ![0, 0] ∧ win0_4.index t = ![t.val % 13, 0]
    ∧ win0_5.index t = ![t.val / 13, 0, t.val % 13, 0] ∧ win0_6.index t = ![t.val / 13, 0, t.val % 13, 0, 0] :=
  (by decide +kernel : ∀ t : Fin grid0.N, _)

theorem lt_N (t : Fin cfg0.N) : t.val < 26 := t.isLt

/-- The batch entry of a point. -/
def bat (t : ℕ) : Fin 2 := ⟨t / 13 % 2, by omega⟩
/-- The array row of row `r` of a point's block. -/
def rowOf (t : ℕ) (r : Fin 1280) : Fin 16640 := ⟨t % 13 * 1280 + r.val, by omega⟩
/-- The array's strip of 128 rows that strip `s` of a point's block is. -/
def stripOf (t : ℕ) (s : Fin 10) : Fin 130 := ⟨t % 13 * 10 + s.val, by omega⟩
/-- Row `r` of a strip of 128. -/
def inStrip (s : Fin 130) (r : Fin 128) : Fin 16640 := ⟨s.val * 128 + r.val, by omega⟩

/-- The arguments, by rows: the compressed keys and values, the shared rotary key, the gain, a head's weights by columns, and
    the angles. -/
def aX (c : Dev nD) (b : Fin 2) (l : Fin 16640) (j : Fin 512) : EReal :=
  m (c.tc.loc main_arg0) (ix3 b l (⟨1536 + j.val, by omega⟩ : Fin 2112))
def aP (c : Dev nD) (b : Fin 2) (l : Fin 16640) (u : Fin 64) : EReal :=
  m (c.tc.loc main_arg0) (ix3 b l (⟨2048 + u.val, by omega⟩ : Fin 2112))
def aG (c : Dev nD) (j : Fin 512) : EReal := m (c.tc.loc main_arg1) (ix1 j)
def aW (c : Dev nD) (h : Fin 8) (n : Fin 256) (j : Fin 512) : EReal :=
  m (c.tc.loc main_arg2) (ix2 j (⟨h.val * 256 + n.val, by omega⟩ : Fin 2048))
def aC (c : Dev nD) (l : Fin 16640) (u : Fin 32) : EReal := m (c.tc.loc main_arg3) (ix2 l u)
def aS (c : Dev nD) (l : Fin 16640) (u : Fin 32) : EReal := m (c.tc.loc main_arg4) (ix2 l u)

/-! ## What the host hands the kernel -/

/-- The projection's array with the rotary key's halves again, swapped, and zeros. -/
def wide (p : FVec Ideal S2x16640x2112 .f32) : FVec Ideal S2x16640x2304 .f32 :=
  concatenate S2x16640x2304 2
    [⟨S2x16640x2112, p⟩,
     ⟨S2x16640x32, extractStridedSlice S2x16640x32 ![0, 0, 2080] p slices_S2x16640x2112_S2x16640x32_0_0_2080⟩,
     ⟨S2x16640x32, extractStridedSlice S2x16640x32 ![0, 0, 2048] p slices_S2x16640x2112_S2x16640x32_0_0_2048⟩,
     ⟨S2x16640x128, broadcastInDim S2x16640x128 ![] bcast_S_S2x16640x128 (constant (F := Ideal) S_ .f32 0x00000000#32)⟩]
    concatenates_S2x16640x2112_S2x16640x32_S2x16640x32_S2x16640x128_S2x16640x2304_d2

theorem V_v3 (c : Dev nD) : V m c main_v3 = wide (m (c.tc.loc main_arg0)) := by
  show StableHlo.after hostOps0 (StableHlo.launchContents m c) (Proc.devRef .tc main_v3) = _
  after_results_simp
  rfl

/-- The table of angles. -/
def angles (co si : FVec Ideal S16640x32 .f32) : FVec Ideal S16640x128 .f32 :=
  concatenate S16640x128 1
    [⟨S16640x32, co⟩, ⟨S16640x32, co⟩, ⟨S16640x32, Host.negf (F := Ideal) si⟩, ⟨S16640x32, si⟩]
    concatenates_S16640x32_S16640x32_S16640x32_S16640x32_S16640x128_d1

theorem V_v5 (c : Dev nD) : V m c main_v5 = angles (m (c.tc.loc main_arg3)) (m (c.tc.loc main_arg4)) := by
  show StableHlo.after hostOps0 (StableHlo.launchContents m c) (Proc.devRef .tc main_v5) = _
  after_results_simp
  rfl

theorem wide_apply (p : FVec Ideal S2x16640x2112 .f32) (b : Fin 2) (l : Fin 16640) (n : Fin 2304) (hn : n.val < 2112) :
    wide p (ix3 b l n) = p (ix3 b l (⟨n.val, hn⟩ : Fin 2112)) := by
  pointwise [wide]
  exact dif_pos hn

/-- The last columns of the projection and the three pieces after them. -/
theorem tail_pieces (f : Fin 2112 → EReal) (z : EReal) (v : Fin 128) :
    (if h : 2048 + v.val < 2112 then f ⟨2048 + v.val, h⟩
    else if h : 2048 + v.val - 2112 < 32 then f ⟨2080 + (2048 + v.val - 2112), by omega⟩
    else if h : 2048 + v.val - 2112 - 32 < 32 then f ⟨2048 + (2048 + v.val - 2112 - 32), by omega⟩
    else z) = twice (fun u => f ⟨2048 + u.val, by omega⟩) v := by
  unfold twice
  dsimp only
  split_ifs <;> first | omega | exact congrArg f (Fin.ext (by dsimp only; omega)) | rfl

theorem wide_tail (p : FVec Ideal S2x16640x2112 .f32) (b : Fin 2) (l : Fin 16640) (v : Fin 128) :
    wide p (ix3 b l (⟨2048 + v.val, by omega⟩ : Fin 2304))
      = twice (fun u => p (ix3 b l (⟨2048 + u.val, by omega⟩ : Fin 2112))) v := by
  pointwise [wide]
  exact tail_pieces (fun n => p (ix3 b l n)) _ v

theorem angles_apply (co si : FVec Ideal S16640x32 .f32) (l : Fin 16640) (v : Fin 128) :
    angles co si (ix2 l v) = table (fun u => co (ix2 l u)) (fun u => si (ix2 l u)) v := by
  pointwise [angles]
  exact table_pieces (fun u => co (ix2 l u)) (fun u => si (ix2 l u)) v

theorem blk0 (c : Dev nD) (t : Fin cfg0.N) (r : Fin 1280) (j : Fin 512) :
    X0_0 m c t (ix3 0 r j) = aX m c (bat t.val) (rowOf t.val r) j := by
  have := lt_N t
  unfold X0_0 Pipeline.Window.fill
  rw [dif_pos (moved0_0 t _)]
  refine Eq.trans ?_ (wide_apply (m (c.tc.loc main_arg0)) (bat t.val) (rowOf t.val r)
    (⟨1536 + j.val, by omega⟩ : Fin 2304) (by dsimp only; omega))
  rw [← V_v3]
  unfold bat rowOf
  blk_ext! [iblk, (idx_all t).1]

theorem blk1 (c : Dev nD) (t : Fin cfg0.N) (r : Fin 1280) (v : Fin 128) :
    iblk m c 1 t (ix3 0 r v) = twice (aP m c (bat t.val) (rowOf t.val r)) v := by
  have := lt_N t
  refine Eq.trans ?_ (wide_tail (m (c.tc.loc main_arg0)) (bat t.val) (rowOf t.val r) v)
  rw [← V_v3]
  unfold bat rowOf
  blk_ext! [iblk, (idx_all t).2.1]

theorem blk2 (c : Dev nD) (t : Fin cfg0.N) (j : Fin 512) : iblk m c 2 t (ix2 0 j) = aG m c j := by
  have := lt_N t
  unfold aG
  blk_simp [iblk, (idx_all t).2.2.1]
  entry_read
  pointwise
  blk_ext [(idx_all t).2.2.1]

theorem blk3 (c : Dev nD) (t : Fin cfg0.N) (h : Fin 8) (j : Fin 512) (n : Fin 256) :
    iblk m c 3 t (ix2 j (⟨h.val * 256 + n.val, by omega⟩ : Fin 2048)) = aW m c h n j := by
  have := lt_N t
  unfold aW
  blk_simp [iblk, (idx_all t).2.2.2.1]
  entry_read
  pointwise
  blk_ext [(idx_all t).2.2.2.1]

theorem blk4 (c : Dev nD) (t : Fin cfg0.N) (r : Fin 1280) (v : Fin 128) :
    iblk m c 4 t (ix2 r v) = table (aC m c (rowOf t.val r)) (aS m c (rowOf t.val r)) v := by
  have := lt_N t
  refine Eq.trans ?_ (angles_apply (m (c.tc.loc main_arg3)) (m (c.tc.loc main_arg4)) (rowOf t.val r) v)
  rw [← V_v5]
  unfold rowOf
  blk_ext [iblk, (idx_all t).2.2.2.2.1]

/-! ## One head at a point -/

/-- One entry of a head's keys: the projected columns, the rotated shared ones, zeros. -/
def keyAt (x g : Fin 512 → EReal) (w : Fin 256 → Fin 512 → EReal) (p : Fin 64 → EReal) (co si : Fin 32 → EReal)
    (k : Fin 256) : EReal :=
  if h : k.val < 128 then dot x g (w k)
  else if h' : k.val < 192 then rot p co si ⟨k.val - 128, by omega⟩
  else 0

/-- One entry of a head's values. -/
def valAt (x g : Fin 512 → EReal) (w : Fin 256 → Fin 512 → EReal) (d : Fin 128) : EReal :=
  dot x g (w ⟨128 + d.val, by omega⟩)

/-- What the kernel computes of a head's keys is its keys. -/
theorem key_eq (x g : Fin 512 → EReal) (f : Fin 256 → Fin 512 → EReal) (p : Fin 64 → EReal) (co si : Fin 32 → EReal)
    (k : Fin 256) :
    (if h : k.val < 128 then dot x g (f ⟨k.val, by omega⟩)
    else Scalar.select (IntOp.cmpi CmpIPredicate.slt (BitVec.ofNat 32 (k.val - 128)) 64#32)
      (twice p ⟨k.val - 128, by omega⟩ * table co si ⟨k.val - 128, by omega⟩
        + twice p ⟨(k.val - 128 + 128 - 64) % 128, by omega⟩
          * table co si ⟨(k.val - 128 + 128 - 64) % 128, by omega⟩) 0) = keyAt x g f p co si k := by
  unfold keyAt
  by_cases h : k.val < 128
  · rw [dif_pos h, dif_pos h]
  · rw [dif_neg h, dif_neg h, lane_lt _ (by omega)]
    by_cases h' : k.val < 192
    · rw [if_pos (by omega), dif_pos h', ← roll_eq]
      have e : (k.val - 128 + 128 - 64) % 128 = k.val - 128 + 64 := by omega
      simp only [e]
    · rw [if_neg (by omega), dif_neg h']

theorem key_at (x0 : FVec Ideal S1x1280x512 .f32) (x1 : FVec Ideal S1x1280x128 .f32) (x2 : FVec Ideal S1x512 .f32)
    (x4 : FVec Ideal S1280x128 .f32) (w : FVec Ideal S512x256 .bf16) (f : Fin 256 → Fin 512 → EReal) (p : Fin 64 → EReal)
    (co si : Fin 32 → EReal) (r : Fin 1280) (k : Fin 256) (hw : ∀ j k, w (ix2 j k) = f k j)
    (h1 : ∀ v, x1 (ix3 0 r v) = twice p v) (h4 : ∀ v, x4 (ix2 r v) = table co si v) :
    k0_pay6 (F := Ideal) (k0_pay5 x0 x2 x1 x4 w) (ix4 0 0 r k)
      = keyAt (fun j => x0 (ix3 0 r j)) (fun j => x2 (ix2 0 j)) f p co si k := by
  pointwise [k0_pay6, k0_pay5, k0_pay4, k0_pay2, k0_pay3]
  simp only [hw, h1, h4]
  exact key_eq (fun j => x0 (ix3 0 r j)) (fun j => x2 (ix2 0 j)) f p co si k

theorem rows_at (x0 : FVec Ideal S1x1280x512 .f32) (x2 : FVec Ideal S1x512 .f32)
    (w : FVec Ideal S512x256 .bf16) (f : Fin 256 → Fin 512 → EReal) (d : Fin 128) (r : Fin 1280)
    (hw : ∀ j k, w (ix2 j k) = f k j) :
    k0_pay7 (F := Ideal) (k0_pay4 x0 x2 w) (ix2 d r)
      = valAt (fun j => x0 (ix3 0 r j)) (fun j => x2 (ix2 0 j)) f d := by
  pointwise [k0_pay7, k0_pay4, k0_pay2]
  simp only [hw]
  rfl

/-- A strip of 128 rows cut out of a head's transposed values. -/
theorem strip_at (v : FVec Ideal S128x1280 .bf16) (off : ℕ) (ho : off + 128 ≤ 1280)
    (hs : S128x1280.Slices ![0, off] S128x128) (d r : Fin 128) :
    shapeCast S1x1x1x128x128 (extractStridedSlice S128x128 ![0, off] v hs) shapeCasts_S128x128_S1x1x1x128x128 (ix5 0 0 0 d r)
      = v (ix2 d (⟨off + r.val, by omega⟩ : Fin 1280)) := by
  pointwise

theorem out_key (c : Dev nD) (t : Fin cfg0.N) (h : Fin 8) (r : Fin 1280) (k : Fin 256) :
    (outsAt0 m c t).1 (ix4 0 h r k)
      = keyAt (aX m c (bat t.val) (rowOf t.val r)) (aG m c) (aW m c h) (aP m c (bat t.val) (rowOf t.val r))
        (aC m c (rowOf t.val r)) (aS m c (rowOf t.val r)) k := by
  have key : ∀ (x : S1x1x1280x256.Idx) (w : FVec Ideal S512x256 .bf16), (r : ℕ) = (x 2 : ℕ) → (k : ℕ) = (x 3 : ℕ) →
      (∀ (j : Fin 512) (n : Fin 256), w (ix2 j n) = iblk m c 3 t (ix2 j (⟨h.val * 256 + n.val, by omega⟩ : Fin 2048))) →
      k0_pay6 (F := Ideal) (k0_pay5 (X0_0 m c t) (iblk m c 2 t) (iblk m c 1 t) (iblk m c 4 t) w) x
        = keyAt (aX m c (bat t.val) (rowOf t.val r)) (aG m c) (aW m c h) (aP m c (bat t.val) (rowOf t.val r))
          (aC m c (rowOf t.val r)) (aS m c (rowOf t.val r)) k := by
    intro x w hr hk hw
    have hx : x = ix4 (0 : Fin 1) (0 : Fin 1) r k := by
      funext a; match a with
      | ⟨0, _⟩ => exact Subsingleton.elim (α := Fin 1) _ _
      | ⟨1, _⟩ => exact Subsingleton.elim (α := Fin 1) _ _
      | ⟨2, _⟩ => exact Fin.ext hr.symm
      | ⟨3, _⟩ => exact Fin.ext hk.symm
    rw [hx]
    refine (key_at _ _ _ _ w (aW m c h) (aP m c (bat t.val) (rowOf t.val r)) (aC m c (rowOf t.val r)) (aS m c (rowOf t.val r)) r k
      (fun j n => (hw j n).trans (blk3 m c t h j n)) (fun v => blk1 m c t r v) (fun v => blk4 m c t r v)).trans ?_
    rw [show (fun j => X0_0 m c t (ix3 0 r j)) = aX m c (bat t.val) (rowOf t.val r) from funext (blk0 m c t r),
      show (fun j => iblk m c 2 t (ix2 0 j)) = aG m c from funext (blk2 m c t)]
  unfold outsAt0
  frame_out
  canon_tiles x e
  all_goals
    refine (key x _ e2 e3 (fun j n => ?_))
    have q : (h : ℕ) = _ := e1
    refine View.ld_unit_apply_of _ _ _ _ _ _ fun a => ?_
    match a with
    | ⟨0, _⟩ => show (j : ℕ) = 0 + (j : ℕ); omega
    | ⟨1, _⟩ =>
        first
          | show (h : ℕ) * 256 + (n : ℕ) = 0 + (n : ℕ); omega
          | show (h : ℕ) * 256 + (n : ℕ) = 256 + (n : ℕ); omega
          | show (h : ℕ) * 256 + (n : ℕ) = 512 + (n : ℕ); omega
          | show (h : ℕ) * 256 + (n : ℕ) = 768 + (n : ℕ); omega
          | show (h : ℕ) * 256 + (n : ℕ) = 1024 + (n : ℕ); omega
          | show (h : ℕ) * 256 + (n : ℕ) = 1280 + (n : ℕ); omega
          | show (h : ℕ) * 256 + (n : ℕ) = 1536 + (n : ℕ); omega
          | show (h : ℕ) * 256 + (n : ℕ) = 1792 + (n : ℕ); omega

theorem out_val (c : Dev nD) (t : Fin cfg0.N) (h : Fin 8) (s : Fin 10) (d r : Fin 128) :
    (outsAt0 m c t).2 (ix5 0 h s d r)
      = valAt (aX m c (bat t.val) (inStrip (stripOf t.val s) r)) (aG m c) (aW m c h) d := by
  have key : ∀ (x : S1x1x1x128x128.Idx) (w : FVec Ideal S512x256 .bf16) (off : ℕ) (hs : S128x1280.Slices ![0, off] S128x128),
      off = 128 * s.val → (d : ℕ) = (x 3 : ℕ) → (r : ℕ) = (x 4 : ℕ) →
      (∀ (j : Fin 512) (n : Fin 256), w (ix2 j n) = iblk m c 3 t (ix2 j (⟨h.val * 256 + n.val, by omega⟩ : Fin 2048))) →
      shapeCast S1x1x1x128x128 (extractStridedSlice S128x128 ![0, off]
          (k0_pay7 (F := Ideal) (k0_pay4 (X0_0 m c t) (iblk m c 2 t) w)) hs) shapeCasts_S128x128_S1x1x1x128x128 x
        = valAt (aX m c (bat t.val) (inStrip (stripOf t.val s) r)) (aG m c) (aW m c h) d := by
    intro x w off hs ho hd hr hw
    have hx : x = ix5 (0 : Fin 1) (0 : Fin 1) (0 : Fin 1) d r := by
      funext a; match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => exact Fin.ext hd.symm
      | ⟨4, _⟩ => exact Fin.ext hr.symm
    have hl : off + r.val < 1280 := by omega
    have hrow : rowOf t.val (⟨off + r.val, hl⟩ : Fin 1280) = inStrip (stripOf t.val s) r := by
      unfold rowOf inStrip stripOf
      exact Fin.ext (by dsimp only; omega)
    rw [hx]
    refine (strip_at _ off (by omega) hs d r).trans ?_
    refine (rows_at _ _ w (aW m c h) d _ (fun j n => (hw j n).trans (blk3 m c t h j n))).trans ?_
    rw [← hrow]
    rw [show (fun j => X0_0 m c t (ix3 0 (⟨off + r.val, hl⟩ : Fin 1280) j)) = aX m c (bat t.val) (rowOf t.val (⟨off + r.val, hl⟩ : Fin 1280))
        from funext (blk0 m c t _),
      show (fun j => iblk m c 2 t (ix2 0 j)) = aG m c from funext (blk2 m c t)]
  unfold outsAt0
  frame_out
  canon_tiles x e
  all_goals
    have q : (h : ℕ) = _ := e1
    have q2 : (s : ℕ) = _ := e2
    refine (key x _ _ (by decide) ?_ e3 e4 (fun j n => ?_))
    · omega
    · refine View.ld_unit_apply_of _ _ _ _ _ _ fun a => ?_
      match a with
      | ⟨0, _⟩ => show (j : ℕ) = 0 + (j : ℕ); omega
      | ⟨1, _⟩ =>
        first
          | show (h : ℕ) * 256 + (n : ℕ) = 0 + (n : ℕ); omega
          | show (h : ℕ) * 256 + (n : ℕ) = 256 + (n : ℕ); omega
          | show (h : ℕ) * 256 + (n : ℕ) = 512 + (n : ℕ); omega
          | show (h : ℕ) * 256 + (n : ℕ) = 768 + (n : ℕ); omega
          | show (h : ℕ) * 256 + (n : ℕ) = 1024 + (n : ℕ); omega
          | show (h : ℕ) * 256 + (n : ℕ) = 1280 + (n : ℕ); omega
          | show (h : ℕ) * 256 + (n : ℕ) = 1536 + (n : ℕ); omega
          | show (h : ℕ) * 256 + (n : ℕ) = 1792 + (n : ℕ); omega

/-- One entry of the keys. -/
def keyCell (c : Dev nD) (b : Fin 2) (h : Fin 8) (l : Fin 16640) (k : Fin 256) : EReal :=
  keyAt (aX m c b l) (aG m c) (aW m c h) (aP m c b l) (aC m c l) (aS m c l) k

/-- One entry of the values, by strips of 128 rows. -/
def valCell (c : Dev nD) (b : Fin 2) (h : Fin 8) (s : Fin 130) (d r : Fin 128) : EReal :=
  valAt (aX m c b (inStrip s r)) (aG m c) (aW m c h) d

/-- What the kernel's result arrays end holding. -/
def keyResult (c : Dev nD) : Vec Ideal S2x8x16640x256 .bf16 := fun i => keyCell m c (i 0) (i 1) (i 2) (i 3)
def valResult (c : Dev nD) : Vec Ideal S2x8x130x128x128 .bf16 := fun i => valCell m c (i 0) (i 1) (i 2) (i 3) (i 4)

theorem final_key (c : Dev nD) : (dats m 0 c).arrAt 5 cfg0.N = keyResult m c := by
  refine (dats m 0 c).arrAt_eq_of_covers 5 _ (by decide +kernel) fun t hf y => ?_
  have hN := lt_N t
  blk_simp
  rw [after0_5]
  have hy : y = ix4 (0 : Fin 1) (y 1 : Fin 8) (y 2 : Fin 1280) (y 3 : Fin 256) := by
    funext a; match a with
    | ⟨0, _⟩ => exact Subsingleton.elim (α := Fin 1) _ _
    | ⟨1, _⟩ => rfl
    | ⟨2, _⟩ => rfl
    | ⟨3, _⟩ => rfl
  rw [hy]
  refine (out_key m c t (y 1) (y 2) (y 3)).trans ?_
  have he : (win0_5.blk t).view.emb (ix4 (0 : Fin 1) (y 1 : Fin 8) (y 2 : Fin 1280) (y 3 : Fin 256))
      = ix4 (bat t.val) (y 1 : Fin 8) (rowOf t.val (y 2)) (y 3 : Fin 256) := by
    unfold bat rowOf
    blk_ext [(idx_all t).2.2.2.2.2.1]
  exact (congrArg (keyResult m c) he).symm

theorem final_val (c : Dev nD) : (dats m 0 c).arrAt 6 cfg0.N = valResult m c := by
  refine (dats m 0 c).arrAt_eq_of_covers 6 _ (by decide +kernel) fun t hf y => ?_
  have hN := lt_N t
  blk_simp
  rw [after0_6]
  have hy : y = ix5 (0 : Fin 1) (y 1 : Fin 8) (y 2 : Fin 10) (y 3 : Fin 128) (y 4 : Fin 128) := by
    funext a; match a with
    | ⟨0, _⟩ => exact Subsingleton.elim (α := Fin 1) _ _
    | ⟨1, _⟩ => rfl
    | ⟨2, _⟩ => rfl
    | ⟨3, _⟩ => rfl
    | ⟨4, _⟩ => rfl
  rw [hy]
  refine (out_val m c t (y 1) (y 2) (y 3) (y 4)).trans ?_
  have he : (win0_6.blk t).view.emb (ix5 (0 : Fin 1) (y 1 : Fin 8) (y 2 : Fin 10) (y 3 : Fin 128) (y 4 : Fin 128))
      = ix5 (bat t.val) (y 1 : Fin 8) (stripOf t.val (y 2)) (y 3 : Fin 128) (y 4 : Fin 128) := by
    unfold bat stripOf
    blk_ext [(idx_all t).2.2.2.2.2.2]
  exact (congrArg (valResult m c) he).symm

end Cert.KeyVal
-- ==== Proof.KeyValClaim.lean ====
/-
  The key and value kernel equals the plain norm, projection and rotation over the extended reals, and the frames of the two
  programs.
-/
module

public import proofs.«01_k».proof.Defs
public import proofs.«01_k».proof.Proof.KeyVal
public import proofs.«01_k».proof.Proof.Gen.Kernel9.Frame
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import Idealize.ShloMosaic.Lib.Quiescent

@[expose] public section

noncomputable section

namespace Cert.KeyValClaim

open Idealize.ShloMosaic Idealize.SL Idealize.SL.Sem Cert.KeyVal
open Cert.Rope

instance : Cert.Kernel9.Facts := Cert.Kernel9.Gen.facts
instance : Cert.Kernel9Ideal.Facts := Cert.Kernel9Ideal.Gen.facts
instance : Cert.Reference9Ideal.Facts := Cert.Reference9Ideal.Gen.facts

theorem kernel_frame : Cert.quiescent_Kernel9 (hKernel9 := Cert.Kernel9.Gen.facts) :=
  fun m ρ _ => Cert.Kernel9.Gen.frame m ρ

theorem kernelIdeal_frame : Cert.quiescent_Kernel9Ideal (hKernel9Ideal := Cert.Kernel9Ideal.Gen.facts) :=
  fun m ρ _ => Cert.Kernel9Ideal.Gen.frame m ρ

theorem reference_frame : Cert.quiescent_Reference9Ideal (hReference9Ideal := Cert.Reference9Ideal.Gen.facts) :=
  fun m ρ _ => (θ_run Cert.Reference9Ideal.defs _ _).mono
    (fun r h => ⟨fun c => (h c).2.2, sem_eq_zero_of_no_sems (by decide) r.2⟩) (Cert.Reference9Ideal.Value.run (F := Ideal) m ρ)

/-- The key with its columns counted through the reference's slices and pieces. -/
theorem key_ref (x g : Fin 512 → EReal) (w : Fin 256 → Fin 512 → EReal) (p : Fin 64 → EReal) (co si : Fin 32 → EReal)
    (k : Fin 256) :
    keyAt x g w p co si k
      = if h : k.val < 128 then dot x g (w ⟨k.val, by omega⟩)
        else if h : k.val - 128 < 64 then
          if h : k.val - 128 < 32 then
            p ⟨k.val - 128, by omega⟩ * co ⟨k.val - 128, h⟩ - p ⟨32 + (k.val - 128), by omega⟩ * si ⟨k.val - 128, h⟩
          else
            p ⟨32 + (k.val - 128 - 32), by omega⟩ * co ⟨k.val - 128 - 32, by omega⟩
              + p ⟨k.val - 128 - 32, by omega⟩ * si ⟨k.val - 128 - 32, by omega⟩
        else 0 := by
  unfold keyAt rot
  by_cases h : k.val < 128
  · rw [dif_pos h, dif_pos h]
  · rw [dif_neg h, dif_neg h]
    by_cases h' : k.val < 192
    · rw [dif_pos h', dif_pos (show k.val - 128 < 64 by omega)]
      by_cases h'' : k.val - 128 < 32
      · rw [dif_pos h'', dif_pos h'']
        simp only [Nat.add_comm 32]
      · have e : 32 + (k.val - 128 - 32) = k.val - 128 := by omega
        rw [dif_neg h'', dif_neg h'']
        simp only [e]
    · rw [dif_neg h', dif_neg (show ¬k.val - 128 < 64 by omega)]

theorem algebraic : Cert.algebraic_Kernel9Ideal_Reference9Ideal
    (hKernel9Ideal := Cert.Kernel9Ideal.Gen.facts) (hReference9Ideal := Cert.Reference9Ideal.Gen.facts) := by
  intro m ρ m' ρ' _ hagree
  refine ⟨fun c => keyResult m c, fun c => valResult m c, ?_, ?_⟩
  · refine (θ_run _ _ _).mono (fun _ h c => ⟨(h c).1.trans (final_key m c), (h c).2.1.trans (final_val m c), (h c).2.2⟩)
      (Cert.Kernel9Ideal.Value.run_blocks (F := Ideal) m ρ)
  · refine (θ_run _ _ _).mono (fun _ h c => ⟨(h c).1.trans ?_, (h c).2.1.trans ?_, (h c).2.2⟩)
      (Cert.Reference9Ideal.Value.run (F := Ideal) m' ρ')
    · obtain ⟨h0, h1, h2, h3, h4⟩ := hagree c
      rw [h0, h1, h2, h3, h4]
      funext i
      have hi : i = ix4 (i 0 : Fin 2) (i 1 : Fin 8) (i 2 : Fin 16640) (i 3 : Fin 256) := by
        funext a; match a with
        | ⟨0, _⟩ => rfl
        | ⟨1, _⟩ => rfl
        | ⟨2, _⟩ => rfl
        | ⟨3, _⟩ => rfl
      refine (congrArg _ hi).trans (Eq.trans ?_ (congrArg (keyResult m c) hi).symm)
      generalize (i 0 : Fin 2) = b
      generalize (i 1 : Fin 8) = h
      generalize (i 2 : Fin 16640) = l
      generalize (i 3 : Fin 256) = k
      refine Eq.trans ?_ (show keyCell m c b h l k = _ from rfl)
      unfold keyCell
      pointwise
      exact (key_ref (aX m c b l) (aG m c) (aW m c h) (aP m c b l) (aC m c l) (aS m c l) k).symm
    · obtain ⟨h0, h1, h2, h3, h4⟩ := hagree c
      rw [h0, h1, h2]
      funext i
      have hi : i = ix5 (i 0 : Fin 2) (i 1 : Fin 8) (i 2 : Fin 130) (i 3 : Fin 128) (i 4 : Fin 128) := by
        funext a; match a with
        | ⟨0, _⟩ => rfl
        | ⟨1, _⟩ => rfl
        | ⟨2, _⟩ => rfl
        | ⟨3, _⟩ => rfl
        | ⟨4, _⟩ => rfl
      refine (congrArg _ hi).trans (Eq.trans ?_ (congrArg (valResult m c) hi).symm)
      generalize (i 0 : Fin 2) = b
      generalize (i 1 : Fin 8) = h
      generalize (i 2 : Fin 130) = s
      generalize (i 3 : Fin 128) = d
      generalize (i 4 : Fin 128) = r
      refine Eq.trans ?_ (show valCell m c b h s d r = _ from rfl)
      unfold valCell valAt
      pointwise
      rfl

end Cert.KeyValClaim
-- ==== Proof.lean ====
/- The claims: the frames of the programs, and each kernel's value against its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite_scores
public import proofs.«01_k».proof.Proof.AttnClaim
public import proofs.«01_k».proof.Proof.MlpClaim
public import proofs.«01_k».proof.Proof.ProjInClaim
public import proofs.«01_k».proof.Proof.MixAbClaim
public import proofs.«01_k».proof.Proof.MixCdClaim
public import proofs.«01_k».proof.Proof.ProjCdClaim
public import proofs.«01_k».proof.Proof.ModulClaim
public import proofs.«01_k».proof.Proof.QuerClaim
public import proofs.«01_k».proof.Proof.KeyValClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_scores.Gen.facts,
  Cert.AttnClaim.kernel_frame, Cert.AttnClaim.kernelIdeal_frame, Cert.AttnClaim.kernelIdeal_frame_pre,
  Cert.AttnClaim.reference_frame, Cert.AttnClaim.reference_frame_pre,
  Cert.MlpClaim.kernel_frame, Cert.MlpClaim.kernelIdeal_frame, Cert.MlpClaim.reference_frame,
  Cert.ProjInClaim.kernel_frame, Cert.ProjInClaim.kernelIdeal_frame, Cert.ProjInClaim.reference_frame,
  Cert.MixAbClaim.kernel_frame, Cert.MixAbClaim.kernelIdeal_frame, Cert.MixAbClaim.reference_frame,
  Cert.MixCdClaim.kernel_frame, Cert.MixCdClaim.kernelIdeal_frame, Cert.MixCdClaim.reference_frame,
  Cert.ProjCdClaim.kernel_frame, Cert.ProjCdClaim.kernelIdeal_frame, Cert.ProjCdClaim.reference_frame,
  Cert.ModulClaim.kernel_frame, Cert.ModulClaim.kernelIdeal_frame, Cert.ModulClaim.reference_frame,
  Cert.QuerClaim.kernel_frame, Cert.QuerClaim.kernelIdeal_frame, Cert.QuerClaim.reference_frame,
  Cert.KeyValClaim.kernel_frame, Cert.KeyValClaim.kernelIdeal_frame, Cert.KeyValClaim.reference_frame,
  trivial, Cert.AttnClaim.algebraic, trivial, Cert.MlpClaim.algebraic,
  trivial, Cert.ProjInClaim.algebraic,
  trivial, Cert.MixAbClaim.algebraic,
  trivial, Cert.MixCdClaim.algebraic,
  trivial, Cert.ProjCdClaim.algebraic,
  trivial, Cert.ModulClaim.algebraic,
  trivial, Cert.QuerClaim.algebraic,
  trivial, Cert.KeyValClaim.algebraic⟩

end Cert.Proof

end
